-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 2048]⟩ ⟨2, ![8192, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 8192]⟩ ⟨2, ![8192, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![2048, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048x8192 : Shape := ⟨2, ![2048, 8192]⟩
abbrev S512x8192 : Shape := ⟨2, ![512, 8192]⟩
abbrev S2x2048x1024 : Shape := ⟨3, ![2, 2048, 1024]⟩
abbrev S8x512x1024 : Shape := ⟨3, ![8, 512, 1024]⟩
abbrev S3x8x512x1024 : Shape := ⟨4, ![3, 8, 512, 1024]⟩
abbrev S2 : Shape := ⟨1, ![2]⟩
abbrev S3x8 : Shape := ⟨2, ![3, 8]⟩
abbrev S_ : Shape := ⟨0, ![]⟩
abbrev S1 : Shape := ⟨1, ![1]⟩
abbrev S1x2048x1024 : Shape := ⟨3, ![1, 2048, 1024]⟩
abbrev S2048x1024 : Shape := ⟨2, ![2048, 1024]⟩
abbrev S2048x512 : Shape := ⟨2, ![2048, 512]⟩
abbrev S512x1024 : Shape := ⟨2, ![512, 1024]⟩
abbrev S1x512x1024 : Shape := ⟨3, ![1, 512, 1024]⟩
abbrev S1x1 : Shape := ⟨2, ![1, 1]⟩
abbrev S1x1x512x1024 : Shape := ⟨4, ![1, 1, 512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S512x8192, .bf16⟩
  | .local _ .vmem, ⟨0, _⟩ => ⟨S2048x2048, .bf16⟩
  | .local _ .vmem, ⟨1, _⟩ => ⟨S512x8192, .bf16⟩
  | .local _ .vmem, ⟨2, _⟩ => ⟨S2x2048x1024, .bf16⟩
  | .local _ .vmem, ⟨3, _⟩ => ⟨S8x512x1024, .bf16⟩
  | .local _ .vmem, ⟨4, _⟩ => ⟨S3x8x512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_17 : BitVec 32) : Fin 2 → Nat :=
  let c0 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v18 : BitVec 32 := Scalar.addi v2 c8_i32
  let c1_i32_16 : BitVec 32 := 1#32
  let v19 : BitVec 32 := Scalar.subi v18 c1_i32_16
  let v20 : BitVec 32 := Scalar.subi v19 c0_i32_17
  let c4_i32_18 : BitVec 32 := 4#32
  let v21 : BitVec 32 := Scalar.remsi v20 c4_i32_18
  let c512_i32 : BitVec 32 := 512#32
  let v25 : BitVec 32 := Scalar.muli v21 c512_i32
  let v26 : Index := Scalar.indexCast v25
  ![0, v26.toNat]
def k0_off2 (d0 : Dev nD) (c0_i32_20 : BitVec 32) : Fin 2 → Nat :=
  let c0_23 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v22 : BitVec 32 := Scalar.addi v2 c1_i32_19
  let v23 : BitVec 32 := Scalar.addi v22 c0_i32_20
  let c4_i32_21 : BitVec 32 := 4#32
  let v24 : BitVec 32 := Scalar.remsi v23 c4_i32_21
  let c512_i32_22 : BitVec 32 := 512#32
  let v29 : BitVec 32 := Scalar.muli v24 c512_i32_22
  let v30 : Index := Scalar.indexCast v29
  ![0, v30.toNat]
def k0_dev3 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_48 : BitVec 32 := 1#32
  let v50 : BitVec 32 := Scalar.muli v7 c1_i32_48
  let v51 : BitVec 32 := Scalar.addi c0_i32_49 v50
  v51.toNat
def k0_dev4 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_78 : BitVec 32 := 1#32
  let v77 : BitVec 32 := Scalar.muli v5 c1_i32_78
  let v78 : BitVec 32 := Scalar.addi c0_i32_79 v77
  v78.toNat
def k0_dev5 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_108 : BitVec 32 := 1#32
  let v104 : BitVec 32 := Scalar.muli v7 c1_i32_108
  let v105 : BitVec 32 := Scalar.addi c0_i32_109 v104
  v105.toNat
def k0_dev6 (d0 : Dev nD) : Nat :=
  let c0_i32_138 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_137 : BitVec 32 := 1#32
  let v131 : BitVec 32 := Scalar.muli v5 c1_i32_137
  let v132 : BitVec 32 := Scalar.addi c0_i32_138 v131
  v132.toNat
def k0_dev7 (d0 : Dev nD) : Nat :=
  let c0_i32_168 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_167 : BitVec 32 := 1#32
  let v158 : BitVec 32 := Scalar.muli v7 c1_i32_167
  let v159 : BitVec 32 := Scalar.addi c0_i32_168 v158
  v159.toNat
def k0_dev8 (d0 : Dev nD) : Nat :=
  let c0_i32_197 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_196 : BitVec 32 := 1#32
  let v185 : BitVec 32 := Scalar.muli v5 c1_i32_196
  let v186 : BitVec 32 := Scalar.addi c0_i32_197 v185
  v186.toNat
def k0_dev9 (d0 : Dev nD) : Nat :=
  let c0_i32_226 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_225 : BitVec 32 := 1#32
  let v212 : BitVec 32 := Scalar.muli v7 c1_i32_225
  let v213 : BitVec 32 := Scalar.addi c0_i32_226 v212
  v213.toNat
def k0_dev10 (d0 : Dev nD) : Nat :=
  let c0_i32_256 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_255 : BitVec 32 := 1#32
  let v239 : BitVec 32 := Scalar.muli v5 c1_i32_255
  let v240 : BitVec 32 := Scalar.addi c0_i32_256 v239
  v240.toNat
def k0_dev11 (d0 : Dev nD) : Nat :=
  let c0_i32_328 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_327 : BitVec 32 := 1#32
  let v299 : BitVec 32 := Scalar.muli v7 c1_i32_327
  let v300 : BitVec 32 := Scalar.addi c0_i32_328 v299
  v300.toNat
def k0_dev12 (d0 : Dev nD) : Nat :=
  let c0_i32_389 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_388 : BitVec 32 := 1#32
  let v344 : BitVec 32 := Scalar.muli v5 c1_i32_388
  let v345 : BitVec 32 := Scalar.addi c0_i32_389 v344
  v345.toNat
def k0_dev13 (d0 : Dev nD) : Nat :=
  let c0_i32_450 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_449 : BitVec 32 := 1#32
  let v389 : BitVec 32 := Scalar.muli v7 c1_i32_449
  let v390 : BitVec 32 := Scalar.addi c0_i32_450 v389
  v390.toNat
def k0_dev14 (d0 : Dev nD) : Nat :=
  let c0_i32_511 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_510 : BitVec 32 := 1#32
  let v434 : BitVec 32 := Scalar.muli v5 c1_i32_510
  let v435 : BitVec 32 := Scalar.addi c0_i32_511 v434
  v435.toNat
def k0_dev15 (d0 : Dev nD) : Nat :=
  let c0_i32_572 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_571 : BitVec 32 := 1#32
  let v479 : BitVec 32 := Scalar.muli v7 c1_i32_571
  let v480 : BitVec 32 := Scalar.addi c0_i32_572 v479
  v480.toNat
def k0_dev16 (d0 : Dev nD) : Nat :=
  let c0_i32_633 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_632 : BitVec 32 := 1#32
  let v524 : BitVec 32 := Scalar.muli v5 c1_i32_632
  let v525 : BitVec 32 := Scalar.addi c0_i32_633 v524
  v525.toNat
def k0_dev17 (d0 : Dev nD) : Nat :=
  let c0_i32_694 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_693 : BitVec 32 := 1#32
  let v569 : BitVec 32 := Scalar.muli v7 c1_i32_693
  let v570 : BitVec 32 := Scalar.addi c0_i32_694 v569
  v570.toNat
def k0_dev18 (d0 : Dev nD) : Nat :=
  let c0_i32_755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_754 : BitVec 32 := 1#32
  let v614 : BitVec 32 := Scalar.muli v5 c1_i32_754
  let v615 : BitVec 32 := Scalar.addi c0_i32_755 v614
  v615.toNat
def k0_dev19 (d0 : Dev nD) : Nat :=
  let c0_i32_827 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_826 : BitVec 32 := 1#32
  let v674 : BitVec 32 := Scalar.muli v7 c1_i32_826
  let v675 : BitVec 32 := Scalar.addi c0_i32_827 v674
  v675.toNat
def k0_dev20 (d0 : Dev nD) : Nat :=
  let c0_i32_888 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_887 : BitVec 32 := 1#32
  let v719 : BitVec 32 := Scalar.muli v5 c1_i32_887
  let v720 : BitVec 32 := Scalar.addi c0_i32_888 v719
  v720.toNat
def k0_dev21 (d0 : Dev nD) : Nat :=
  let c0_i32_949 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_948 : BitVec 32 := 1#32
  let v764 : BitVec 32 := Scalar.muli v7 c1_i32_948
  let v765 : BitVec 32 := Scalar.addi c0_i32_949 v764
  v765.toNat
def k0_dev22 (d0 : Dev nD) : Nat :=
  let c0_i32_1010 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1009 : BitVec 32 := 1#32
  let v809 : BitVec 32 := Scalar.muli v5 c1_i32_1009
  let v810 : BitVec 32 := Scalar.addi c0_i32_1010 v809
  v810.toNat
def k0_dev23 (d0 : Dev nD) : Nat :=
  let c0_i32_1071 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1070 : BitVec 32 := 1#32
  let v854 : BitVec 32 := Scalar.muli v7 c1_i32_1070
  let v855 : BitVec 32 := Scalar.addi c0_i32_1071 v854
  v855.toNat
def k0_dev24 (d0 : Dev nD) : Nat :=
  let c0_i32_1132 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1131 : BitVec 32 := 1#32
  let v899 : BitVec 32 := Scalar.muli v5 c1_i32_1131
  let v900 : BitVec 32 := Scalar.addi c0_i32_1132 v899
  v900.toNat
def k0_dev25 (d0 : Dev nD) : Nat :=
  let c0_i32_1193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1192 : BitVec 32 := 1#32
  let v944 : BitVec 32 := Scalar.muli v7 c1_i32_1192
  let v945 : BitVec 32 := Scalar.addi c0_i32_1193 v944
  v945.toNat
def k0_dev26 (d0 : Dev nD) : Nat :=
  let c0_i32_1254 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1253 : BitVec 32 := 1#32
  let v989 : BitVec 32 := Scalar.muli v5 c1_i32_1253
  let v990 : BitVec 32 := Scalar.addi c0_i32_1254 v989
  v990.toNat
def k0_off3 (d0 : Dev nD) : Fin 2 → Nat :=
  let c0_1260 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1259 : BitVec 32 := 512#32
  let v999 : BitVec 32 := Scalar.muli v2 c512_i32_1259
  let v1000 : Index := Scalar.indexCast v999
  ![0, v1000.toNat]
abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x2048 : Shape := ⟨2, ![8192, 2048]⟩
abbrev S8192x8192 : Shape := ⟨2, ![8192, 8192]⟩
abbrev S2048x8192 : Shape := ⟨2, ![2048, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S8192x2048, .f32⟩
  | .hbm, ⟨3, _⟩ => ⟨S8192x8192, .f32⟩
  | .hbm, ⟨4, _⟩ => ⟨S2048x8192, .f32⟩
  | .hbm, ⟨5, _⟩ => ⟨S2048x8192, .f32⟩
  | .hbm, ⟨6, _⟩ => ⟨S2048x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.KernelIdeal.Cells.lean ====
/-
The ring of four devices: neighbours, buffers by tile step, semaphore cells.

A tile step `k < 32` is step `k / 8` of the ring and column tile `k % 8` of the result. Every view the kernel takes is
named here by its tile step: the slot of the send buffer, of the receive buffer and of the staging buffer of `dy`, the
column tile of `dy`, and the semaphores that guard them.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

set_option maxRecDepth 16384

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Neighbours -/

/-- The device after `c` on the ring. -/
def nxt (c : Dev nD) : Dev nD := ⟨(c.val + 1) % 4, Nat.mod_lt _ (by decide)⟩
/-- The device before `c` on the ring. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

/-- Where the partial product of tile step `k` goes: even tiles to the next device, odd ones to the previous. -/
def peer (c : Dev nD) (k : ℕ) : Dev nD := if k % 2 = 0 then nxt c else prv c
/-- Where the partial product that arrives for tile step `k` comes from. -/
def src (c : Dev nD) (k : ℕ) : Dev nD := if k % 2 = 0 then prv c else nxt c

theorem peer_src (c : Dev nD) (k : ℕ) : peer (src c k) k = c := by
  unfold peer src; by_cases h : k % 2 = 0
  · rw [if_pos h, if_pos h, nxt_prv]
  · rw [if_neg h, if_neg h, prv_nxt]
theorem src_peer (c : Dev nD) (k : ℕ) : src (peer c k) k = c := by
  unfold peer src; by_cases h : k % 2 = 0
  · rw [if_pos h, if_pos h, prv_nxt]
  · rw [if_neg h, if_neg h, nxt_prv]

/-! ## Buffers -/

/-- The device's rows of `x`, staged; -/
abbrev xM : Memref sig .tc .vmem S2048x2048 .bf16 := Memref.whole cc0_stg0_0
/-- its rows of `dy`, in memory; -/
abbrev dyM : Memref sig .tc .hbm S2048x8192 .bf16 := Memref.whole main_arg1
/-- its rows of the result, staged; -/
abbrev oM : Memref sig .tc .vmem S512x8192 .bf16 := Memref.whole cc0_stg1_0
/-- the two slots a column tile of `dy` is copied to; -/
abbrev dbM : Memref sig .tc .vmem S2x2048x1024 .bf16 := Memref.whole cc0_scratch0
/-- the send slots; -/
abbrev sbM : Memref sig .tc .vmem S8x512x1024 .bf16 := Memref.whole cc0_scratch1
/-- the receive slots. -/
abbrev rbM : Memref sig .tc .vmem S3x8x512x1024 .bf16 := Memref.whole cc0_scratch2

theorem dyR_inb (k : ℕ) : ∀ a, (![0, 1024 * (k % 8)] : Fin S2048x8192.rank → ℕ) a + S2048x1024.size a ≤ S2048x8192.size a := by
  have h := Nat.mod_lt k (by decide : 8 > 0)
  intro a; revert a
  rw [Fin.forall_fin_two]
  exact ⟨(Nat.zero_add _).le, show 1024 * (k % 8) + 1024 ≤ 8192 by omega⟩
theorem oR_inb (k : ℕ) : ∀ a, (![0, 1024 * (k % 8)] : Fin S512x8192.rank → ℕ) a + S512x1024.size a ≤ S512x8192.size a := by
  have h := Nat.mod_lt k (by decide : 8 > 0)
  intro a; revert a
  rw [Fin.forall_fin_two]
  exact ⟨(Nat.zero_add _).le, show 1024 * (k % 8) + 1024 ≤ 8192 by omega⟩
theorem dbR_inb (k : ℕ) : ∀ a, (![k % 2, 0, 0] : Fin S2x2048x1024.rank → ℕ) a + S1x2048x1024.size a ≤ S2x2048x1024.size a := by
  have h := Nat.mod_lt k (by decide : 2 > 0)
  intro a; revert a
  rw [Fin.forall_fin_succ, Fin.forall_fin_two]
  exact ⟨show k % 2 + 1 ≤ 2 by omega, (Nat.zero_add _).le, (Nat.zero_add _).le⟩
theorem sbR_inb (k : ℕ) : ∀ a, (![k % 8, 0, 0] : Fin S8x512x1024.rank → ℕ) a + S1x512x1024.size a ≤ S8x512x1024.size a := by
  have h := Nat.mod_lt k (by decide : 8 > 0)
  intro a; revert a
  rw [Fin.forall_fin_succ, Fin.forall_fin_two]
  exact ⟨show k % 8 + 1 ≤ 8 by omega, (Nat.zero_add _).le, (Nat.zero_add _).le⟩
theorem rbR_inb (k : ℕ) : ∀ a, (![k / 8 % 3, k % 8, 0, 0] : Fin S3x8x512x1024.rank → ℕ) a + S1x1x512x1024.size a ≤ S3x8x512x1024.size a := by
  have h := Nat.mod_lt k (by decide : 8 > 0)
  have h' := Nat.mod_lt (k / 8) (by decide : 3 > 0)
  intro a; revert a
  rw [Fin.forall_fin_succ, Fin.forall_fin_succ, Fin.forall_fin_two]
  exact ⟨show k / 8 % 3 + 1 ≤ 3 by omega, show k % 8 + 1 ≤ 8 by omega, (Nat.zero_add _).le, (Nat.zero_add _).le⟩
theorem semR_inb (k : ℕ) : ∀ a, (![k / 8 % 3, k % 8] : Fin S3x8.rank → ℕ) a + S1x1.size a ≤ S3x8.size a := by
  have h := Nat.mod_lt k (by decide : 8 > 0)
  have h' := Nat.mod_lt (k / 8) (by decide : 3 > 0)
  intro a; revert a
  rw [Fin.forall_fin_two]
  exact ⟨show k / 8 % 3 + 1 ≤ 3 by omega, show k % 8 + 1 ≤ 8 by omega⟩
theorem dsR_inb (k : ℕ) : ∀ a, (![k % 2] : Fin S2.rank → ℕ) a + S1.size a ≤ S2.size a := by
  have h := Nat.mod_lt k (by decide : 2 > 0)
  intro a; revert a
  rw [Fin.forall_fin_one]
  exact show k % 2 + 1 ≤ 2 by omega

/-- The columns of tile step `k` in `dy`; -/
abbrev dyR (k : ℕ) : Rect S2048x8192 := Rect.unit (s := S2048x8192) ![0, 1024 * (k % 8)] S2048x1024.size (dyR_inb k)
/-- in the result; -/
abbrev oR (k : ℕ) : Rect S512x8192 := Rect.unit (s := S512x8192) ![0, 1024 * (k % 8)] S512x1024.size (oR_inb k)
/-- the slot of tile step `k` in the staging buffer of `dy`; -/
abbrev dbR (k : ℕ) : Rect S2x2048x1024 := Rect.unit (s := S2x2048x1024) ![k % 2, 0, 0] S1x2048x1024.size (dbR_inb k)
/-- in the send buffer; -/
abbrev sbR (k : ℕ) : Rect S8x512x1024 := Rect.unit (s := S8x512x1024) ![k % 8, 0, 0] S1x512x1024.size (sbR_inb k)
/-- in the receive buffer. -/
abbrev rbR (k : ℕ) : Rect S3x8x512x1024 := Rect.unit (s := S3x8x512x1024) ![k / 8 % 3, k % 8, 0, 0] S1x1x512x1024.size (rbR_inb k)

/-- The column tile of `dy` of tile step `k`; -/
abbrev dyS (k : ℕ) : Memref sig .tc .hbm S2048x1024 .bf16 := dyM.slice (dyR k) (fun _ => rfl)
/-- the slot it is copied to; -/
abbrev dbS (k : ℕ) : Memref sig .tc .vmem S2048x1024 .bf16 := (dbM.slice (dbR k) (fun _ => rfl)).squeeze S2048x1024 squeezes_S1x2048x1024_S2048x1024
/-- the send slot of tile step `k`; -/
abbrev sbS (k : ℕ) : Memref sig .tc .vmem S512x1024 .bf16 := (sbM.slice (sbR k) (fun _ => rfl)).squeeze S512x1024 squeezes_S1x512x1024_S512x1024
/-- the receive slot of tile step `k`. -/
abbrev rbS (k : ℕ) : Memref sig .tc .vmem S512x1024 .bf16 := (rbM.slice (rbR k) (fun _ => rfl)).squeeze S512x1024 squeezes_S1x1x512x1024_S512x1024

/-! ## Semaphores and cells -/

abbrev barS : Sem sig := (SemArray.scalar (sig.barrier 0 rfl) : Sems sig S_).sem
/-- The semaphore of the slot `k % 2` of the staging buffer of `dy`; -/
abbrev dySem (k : ℕ) : DmaSem sig :=
  (((cc0_scratch3 : DmaSems sig S2).slice (Rect.unit (s := S2) ![k % 2] S1.size (dsR_inb k))).squeeze S_ squeezes_S1_S_).sem
/-- of the departure of tile step `k`; -/
abbrev sendSem (k : ℕ) : DmaSem sig :=
  (((cc0_scratch4 : DmaSems sig S3x8).slice (Rect.unit (s := S3x8) ![k / 8 % 3, k % 8] S1x1.size (semR_inb k))).squeeze S_ squeezes_S1x1_S_).sem
/-- of the arrival of tile step `k`. -/
abbrev recvSem (k : ℕ) : DmaSem sig :=
  (((cc0_scratch5 : DmaSems sig S3x8).slice (Rect.unit (s := S3x8) ![k / 8 % 3, k % 8] S1x1.size (semR_inb k))).squeeze S_ squeezes_S1x1_S_).sem

theorem sendSem_val : ∀ k : Fin 24, (sendSem k.val).val = 4 + k.val := by decide +kernel
theorem recvSem_val : ∀ k : Fin 24, (recvSem k.val).val = 28 + k.val := by decide +kernel
theorem dySem_val : ∀ k : Fin 2, (dySem k.val).val = 2 + k.val := by decide +kernel
theorem dySem_mod (k : ℕ) : dySem k = dySem (k % 2) := by
  have h : ∀ (i j : ℕ) (e : i = j) (hi : ∀ a, (![i] : Fin S2.rank → ℕ) a + S1.size a ≤ S2.size a) (hj : ∀ a, (![j] : Fin S2.rank → ℕ) a + S1.size a ≤ S2.size a),
      (((cc0_scratch3 : DmaSems sig S2).slice (Rect.unit (s := S2) ![i] S1.size hi)).squeeze S_ squeezes_S1_S_).sem
        = (((cc0_scratch3 : DmaSems sig S2).slice (Rect.unit (s := S2) ![j] S1.size hj)).squeeze S_ squeezes_S1_S_).sem := by
    intro i j e hi hj; subst e; rfl
  exact h _ _ (Nat.mod_mod k 2).symm _ _
theorem dySem_lt (k : ℕ) : (dySem k).val < 28 := by
  rw [dySem_mod, dySem_val ⟨k % 2, Nat.mod_lt _ (by decide)⟩]
  have h := Nat.mod_lt k (by decide : 2 > 0)
  show 2 + k % 2 < 28; omega

abbrev barCell (c : Dev nD) : GSem nD τ sig := ((c : Thread nD τ), .reg barS)
abbrev sendCell (c : Dev nD) (k : ℕ) : GSem nD τ sig := ((c : Thread nD τ), .dma (sendSem k))
abbrev recvCell (c : Dev nD) (k : ℕ) : GSem nD τ sig := ((c : Thread nD τ), .dma (recvSem k))

/-- What a transfer of one slot credits. -/
abbrev N : ℕ := (rbS 0).view.dmaCredit
theorem N_pos : 0 < N := View.dmaCredit_pos _ (by decide)

end Cert.KernelIdeal.RingProof
-- ==== Proof.KernelIdeal.Values.lean ====
/-
What each device computes: the partial sum it sends at each tile step, the tile of the result it stores, the result.

`sum c k` is the block the device `c` finishes at tile step `k`. In the first step of the ring it is the product of a block
of its rows of `x` with a column tile of its rows of `dy`; later it is that product plus the block just received, which is
what a neighbour finished eight tile steps before. At the last eight tile steps it is a tile of the result.
-/
module

public import proofs.«01_k».proof.Proof.KernelIdeal.Cells

@[expose] public section

set_option maxRecDepth 16384

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The device's rows of `x`, as staged; -/
def xstg (c : Dev nD) : (cc0_stg0_0 : Ref sig .tc).ty.Contents (Elt F) :=
  (win0_0.blk (0 : Fin 1)).view.read (Elt F) ((s₀ m ρ).mem ((c : Thread nD τ).loc main_arg0))

/-- The block of 512 columns of `x` that device `c` multiplies at step `s` for the tiles of parity `p`. -/
def chunk (c : Dev nD) (s p : ℕ) : ℕ := if p = 0 then (c.val + 7 - s) % 4 else (c.val + s + 1) % 4

theorem chunk_lt (c : Dev nD) (s p : ℕ) : chunk c s p < 4 := by
  unfold chunk; split <;> exact Nat.mod_lt _ (by decide)

theorem xR_inb (j : ℕ) (hj : j < 4) : ∀ a, (![0, 512 * j] : Fin S2048x2048.rank → ℕ) a + S2048x512.size a ≤ S2048x2048.size a := by
  intro a; revert a
  rw [Fin.forall_fin_two]
  exact ⟨(Nat.zero_add _).le, show 512 * j + 512 ≤ 2048 by omega⟩

/-- The columns `512 j … 512 j + 511` of `x`. -/
abbrev xR (j : ℕ) (hj : j < 4) : Rect S2048x2048 := Rect.unit (s := S2048x2048) ![0, 512 * j] S2048x512.size (xR_inb j hj)

/-- That block of `x`, as loaded; -/
def xv (c : Dev nD) (s p : ℕ) : Vec F S2048x512 .bf16 :=
  xM.view.readAt (Elt F) (xR (chunk c s p) (chunk_lt c s p)).toLoadRect (xstg m ρ c)

/-- the column tile of `dy` of tile step `k`; -/
def dyT (c : Dev nD) (k : ℕ) : Vec F S2048x1024 .bf16 := (dyS k).view.read (Elt F) (m ((c : Thread nD τ).loc main_arg1))

theorem casts_dy : S2048x1024.ShapeCasts S1x2048x1024 := squeezes_S1x2048x1024_S2048x1024.numel_eq.symm
theorem casts_recv : S512x1024.ShapeCasts S1x1x512x1024 := squeezes_S1x1x512x1024_S512x1024.numel_eq.symm

/-- that tile, as loaded from its slot; -/
def dyv (c : Dev nD) (k : ℕ) : Vec F S1x2048x1024 .bf16 := shapeCast S1x2048x1024 (dyT m c k) casts_dy

/-- a received block, as loaded from its slot. -/
def recvv (p : FVec F S512x1024 .bf16) : Vec F S1x1x512x1024 .bf16 := shapeCast S1x1x512x1024 p casts_recv

/-- The product of tile step `k` on device `c`. -/
def prod (c : Dev nD) (k : ℕ) : FVec F S512x1024 .f32 :=
  matmul dot_S2048x512_S2048x1024_S512x1024_0_0_1_1_n_n none
    (shapeCast S2048x512 (xv m ρ c (k / 8) (k % 2)) shapeCasts_S2048x512_S2048x512)
    (shapeCast S2048x1024 (dyv m c k) shapeCasts_S1x2048x1024_S2048x1024)
    (constant S512x1024 .f32 0x00000000#32)

/-- The block finished when nothing has been received: the product, rounded. -/
def first (c : Dev nD) (k : ℕ) : FVec F S512x1024 .bf16 := truncf .bf16 (prod m ρ c k) bitsLt_bf16_f32

/-- The block finished after `p` has been received: the product plus `p`, rounded. -/
def next (c : Dev nD) (k : ℕ) (p : FVec F S512x1024 .bf16) : FVec F S512x1024 .bf16 :=
  truncf .bf16 (addf (prod m ρ c k)
    (extf .f32 (shapeCast S512x1024 (recvv p) shapeCasts_S1x1x512x1024_S512x1024) bitsLt_bf16_f32)) bitsLt_bf16_f32

/-- The block finished at step `s` of column tile `t`. -/
def acc (t : ℕ) : ℕ → Dev nD → FVec F S512x1024 .bf16
  | 0, c => first m ρ c t
  | s + 1, c => next m ρ c (8 * (s + 1) + t) (acc t s (src c t))

/-- The block finished at tile step `k`. -/
def sum (c : Dev nD) (k : ℕ) : FVec F S512x1024 .bf16 := acc m ρ (k % 8) (k / 8) c

/-- The block finished in the first step; -/
theorem sum_first (c : Dev nD) (k : ℕ) (h : k < 8) : sum m ρ c k = first m ρ c k := by
  unfold sum; rw [Nat.div_eq_of_lt h, Nat.mod_eq_of_lt h]; rfl

theorem src_mod (c : Dev nD) (k : ℕ) : src c (k % 8) = src c k := by
  unfold src; rw [Nat.mod_mod_of_dvd k (by decide : 2 ∣ 8)]

/-- the block finished later, from the one received. -/
theorem sum_next (c : Dev nD) (k : ℕ) (h : 8 ≤ k) : sum m ρ c k = next m ρ c k (sum m ρ (src c k) (k - 8)) := by
  obtain ⟨j, rfl⟩ := Nat.exists_eq_add_of_le h
  have h1 : (8 + j) % 8 = j % 8 := by omega
  have h2 : (8 + j) / 8 = j / 8 + 1 := by omega
  have h3 : 8 * (j / 8 + 1) + j % 8 = 8 + j := by omega
  have h4 : 8 + j - 8 = j := by omega
  have h5 : src c (j % 8) = src c (8 + j) := by rw [← src_mod c (8 + j), h1]
  unfold sum
  rw [h1, h2, h4, acc, h3, h5]

/-- The result buffer of device `c`, holding `f` at first, after `o` of its tiles are stored. -/
def outW (c : Dev nD) (f : (cc0_stg1_0 : Ref sig .tc).ty.Contents (Elt F)) : ℕ → (cc0_stg1_0 : Ref sig .tc).ty.Contents (Elt F)
  | 0 => f
  | o + 1 => (oM.access (oR (24 + o))).write (Elt F) (outW c f o) (sum m ρ c (24 + o)) Finset.univ

end Cert.KernelIdeal.RingProof
-- ==== Proof.KernelIdeal.Schedule.lean ====
/-
Who signals whom, and what each signal hands over.

Three kinds of cells. A device's barrier cell is paid one unit by each neighbour; with its unit a neighbour hands over the
receive slots it lends to the device. The departure cell of a tile step is paid by the transfer that leaves, and returns
the send slot. The arrival cell of a tile step is paid by the transfer that arrives, and hands over the receive slot with
the block the sender finished.
-/
module

public import proofs.«01_k».proof.Proof.KernelIdeal.Values

@[expose] public section

set_option maxRecDepth 16384

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the ring's rounds, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev EQ : Emb (UB × Counters) (MT nD τ sig Unit (Elt F) ℕ UU ℕ) := embR
abbrev ER : Emb UB (MT nD τ sig Unit (Elt F) ℕ UU ℕ) := (Emb.inl : Emb UB (UB × Counters)).trans EQ
abbrev EC : UEmb Counters (MT nD τ sig Unit (Elt F) ℕ UU ℕ) := countersEmb

variable (m : (ℓ : Loc nD τ sig) → Buf (Elt F) ℓ) (ρ : Dev nD → PrngReg)

/-! ## Slots -/

/-- Device `c` holds the slot `M`, at any contents; -/
def slotAny (c : Dev nD) (M : Memref sig .tc .vmem S512x1024 .bf16) : sProp 𝕄 :=
  iprop(∃ f : Buf (Elt F) (M.view.loc (c : Thread nD τ)), M.view.loc (c : Thread nD τ) ↦[M.view.set]{fullShare} f)
/-- holding the block `p`. -/
def slotAt (c : Dev nD) (M : Memref sig .tc .vmem S512x1024 .bf16) (p : FVec F S512x1024 .bf16) : sProp 𝕄 :=
  iprop(∃ f : Buf (Elt F) (M.view.loc (c : Thread nD τ)), (M.view.loc (c : Thread nD τ) ↦[M.view.set]{fullShare} f) ∗ ⌜M.view.read (Elt F) f = p⌝)

omit [FloatOps F] in
theorem slotAt_any (c : Dev nD) (M : Memref sig .tc .vmem S512x1024 .bf16) (p : FVec F S512x1024 .bf16) : slotAt c M p ⊢ slotAny (F := F) c M := by
  unfold slotAt slotAny; iintro ⟨%f, H, -⟩; iexists f; iexact H

omit [FloatOps F] in
instance slotAny_storable (c : Dev nD) (M) : BI.Storable (upEmb : UEmb _ 𝕄) (slotAny (F := F) c M) := by unfold slotAny; infer_instance
omit [FloatOps F] in
instance slotAt_storable (c : Dev nD) (M) (p) : BI.Storable (upEmb : UEmb _ 𝕄) (slotAt (F := F) c M p) := by unfold slotAt; infer_instance

/-! ## The schedule -/

/-- The tile steps of even tiles (`true`) or of odd ones. -/
abbrev half (d : Bool) : Finset ℕ := (Finset.Ico 0 24).filter fun k => decide (k % 2 = 0) = d

/-- What `nxt c`'s signal (duty `true`) or `prv c`'s (`false`) hands device `c`: the receive slots it will send to there. -/
def barPay (c : Dev nD) (d : Bool) : sProp 𝕄 := bigSep (half d) fun k => slotAny (peer c k) (rbS k)

omit [FloatOps F] in
instance barPay_storable (c : Dev nD) (d : Bool) : BI.Storable (upEmb : UEmb _ 𝕄) (barPay (F := F) c d) := by unfold barPay; infer_instance

/-- One round: a barrier cell has the two duties of one unit, a departure or arrival cell the duty `false` of a slot's credit. -/
def ringRd : Rounds.Schedule (GSem nD τ sig) Bool 𝕄 where
  duties g r := if r = 0 ∧ g.1.2 = .tc then (match g.2 with | .reg _ => Finset.univ | .dma s => if 4 ≤ s.val then {false} else ∅) else ∅
  unitless _ := False
  amount g _ _ := match g.2 with | .reg _ => 1 | .dma _ => N
  payload g _ d := match g.2 with
    | .reg _ => barPay g.1.1 d
    | .dma s => if s.val < 28 then slotAny g.1.1 (sbS (s.val - 4))
        else slotAt g.1.1 (rbS (s.val - 28)) (sum m ρ (src g.1.1 (s.val - 28)) (s.val - 28))
  amount_pos g _ _ _ := by
    obtain ⟨_, s⟩ := g
    cases s
    · exact Nat.one_pos
    · exact N_pos

instance ringRd_payload_storable (g : GSem nD τ sig) (r : ℕ) (d : Bool) :
    BI.Storable (upEmb : UEmb _ 𝕄) ((ringRd (F := F) m ρ).payload g r d) := by
  obtain ⟨t, s⟩ := g
  cases s with
  | reg s => exact barPay_storable _ _
  | dma s =>
    show BI.Storable upEmb (if s.val < 28 then slotAny t.1 (sbS (s.val - 4))
        else slotAt t.1 (rbS (s.val - 28)) (sum m ρ (src t.1 (s.val - 28)) (s.val - 28)))
    split <;> infer_instance

section Sched
variable (c : Dev nD)

theorem duties_bar : (ringRd (F := F) m ρ).duties (barCell c) 0 = Finset.univ := by dsimp only [ringRd]; exact if_pos ⟨rfl, rfl⟩
theorem duties_dma (s : DmaSem sig) (h : 4 ≤ s.val) : (ringRd (F := F) m ρ).duties ((c : Thread nD τ), .dma s) 0 = {false} := by
  dsimp only [ringRd]
  rw [if_pos ⟨rfl, rfl⟩, if_pos h]
theorem duties_send (k : ℕ) (h : k < 24) : (ringRd (F := F) m ρ).duties (sendCell c k) 0 = {false} :=
  duties_dma m ρ c _ (by rw [sendSem_val ⟨k, h⟩]; omega)
theorem duties_recv (k : ℕ) (h : k < 24) : (ringRd (F := F) m ρ).duties (recvCell c k) 0 = {false} :=
  duties_dma m ρ c _ (by rw [recvSem_val ⟨k, h⟩]; omega)
theorem duties_later (g : GSem nD τ sig) : ∀ r, 1 ≤ r → (ringRd (F := F) m ρ).duties g r = ∅ :=
  fun r hr => by dsimp only [ringRd]; exact if_neg fun h => by omega

theorem amount_bar (d : Bool) : (ringRd (F := F) m ρ).amount (barCell c) 0 d = 1 := rfl
theorem amount_dma (s : DmaSem sig) (d : Bool) : (ringRd (F := F) m ρ).amount ((c : Thread nD τ), .dma s) 0 d = N := rfl

theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_send (k : ℕ) (h : k < 24) : (ringRd (F := F) m ρ).expect (sendCell c k) 0 = N := by
  unfold Schedule.expect Schedule.amountOf; rw [duties_send m ρ c k h, Finset.sum_singleton, amount_dma]
theorem expect_recv (k : ℕ) (h : k < 24) : (ringRd (F := F) m ρ).expect (recvCell c k) 0 = N := by
  unfold Schedule.expect Schedule.amountOf; rw [duties_recv m ρ c k h, Finset.sum_singleton, amount_dma]

theorem payload_bar (d : Bool) : (ringRd (F := F) m ρ).payload (barCell c) 0 d = barPay c d := rfl
theorem payload_send (k : ℕ) (h : k < 24) (d : Bool) : (ringRd (F := F) m ρ).payload (sendCell c k) 0 d = slotAny c (sbS k) := by
  show (if (sendSem k).val < 28 then slotAny c (sbS ((sendSem k).val - 4)) else slotAt c (rbS ((sendSem k).val - 28)) (sum m ρ (src c ((sendSem k).val - 28)) ((sendSem k).val - 28))) = _
  rw [if_pos (by rw [sendSem_val ⟨k, h⟩]; show 4 + k < 28; omega)]
  rw [sendSem_val ⟨k, h⟩]
  show slotAny c (sbS (4 + k - 4)) = _
  rw [Nat.add_sub_cancel_left]
theorem payload_recv (k : ℕ) (h : k < 24) (d : Bool) :
    (ringRd (F := F) m ρ).payload (recvCell c k) 0 d = slotAt c (rbS k) (sum m ρ (src c k) k) := by
  show (if (recvSem k).val < 28 then slotAny c (sbS ((recvSem k).val - 4)) else slotAt c (rbS ((recvSem k).val - 28)) (sum m ρ (src c ((recvSem k).val - 28)) ((recvSem k).val - 28))) = _
  rw [if_neg (by rw [recvSem_val ⟨k, h⟩]; show ¬ 28 + k < 28; omega)]
  rw [recvSem_val ⟨k, h⟩]
  show slotAt c (rbS (28 + k - 28)) (sum m ρ (src c (28 + k - 28)) (28 + k - 28)) = _
  rw [Nat.add_sub_cancel_left]

/-- What device `c` receives at its barrier: every neighbour's receive slot it will send to. -/
theorem rest_bar : bigSep ((ringRd (F := F) m ρ).duties (barCell c) 0 \ ∅) (fun d => (ringRd (F := F) m ρ).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send (k : ℕ) (h : k < 24) : bigSep ((ringRd (F := F) m ρ).duties (sendCell c k) 0 \ ∅) (fun d => (ringRd (F := F) m ρ).payload (sendCell c k) 0 d)
    = slotAny c (sbS k) := by
  rw [Finset.sdiff_empty, duties_send m ρ c k h, bigSep_singleton, payload_send m ρ c k h]
theorem rest_recv (k : ℕ) (h : k < 24) : bigSep ((ringRd (F := F) m ρ).duties (recvCell c k) 0 \ ∅) (fun d => (ringRd (F := F) m ρ).payload (recvCell c k) 0 d)
    = slotAt c (rbS k) (sum m ρ (src c k) k) := by
  rw [Finset.sdiff_empty, duties_recv m ρ c k h, bigSep_singleton, payload_recv m ρ c k h]

end Sched

omit [FloatOps F] in
theorem half_true : half true = (Finset.Ico 0 24).filter fun k => k % 2 = 0 := by decide
omit [FloatOps F] in
theorem half_false : half false = (Finset.Ico 0 24).filter fun k => ¬ k % 2 = 0 := by decide

omit [FloatOps F] in
/-- The even slots and the odd ones are all of them. -/
theorem halves (Φ : ℕ → sProp 𝕄) : bigSep (Finset.Ico 0 24) Φ = iprop(bigSep (half true) Φ ∗ bigSep (half false) Φ) := by
  rw [half_true, half_false]; exact bigSep_filter_split _ _

omit [FloatOps F] in
theorem peer_half_true (c : Dev nD) {k : ℕ} (h : k ∈ half true) : peer c k = nxt c := by
  rw [half_true, Finset.mem_filter] at h; exact if_pos h.2
omit [FloatOps F] in
theorem peer_half_false (c : Dev nD) {k : ℕ} (h : k ∈ half false) : peer c k = prv c := by
  rw [half_false, Finset.mem_filter] at h; exact if_neg h.2

omit [FloatOps F] in
/-- All the receive slots of device `c`, as its two signals hand them over: the even ones to `prv c`, the odd ones to `nxt c`. -/
theorem lend (c : Dev nD) : bigSep (Finset.Ico 0 24) (fun k => slotAny (F := F) c (rbS k)) = iprop(barPay (prv c) true ∗ barPay (nxt c) false) := by
  rw [halves]; unfold barPay
  rw [bigSep_congr (s := half true) (Φ := fun k => slotAny (F := F) c (rbS k)) (Ψ := fun k => slotAny (peer (prv c) k) (rbS k)) fun k hk => by rw [peer_half_true _ hk, nxt_prv],
    bigSep_congr (s := half false) (Φ := fun k => slotAny (F := F) c (rbS k)) (Ψ := fun k => slotAny (peer (nxt c) k) (rbS k)) fun k hk => by rw [peer_half_false _ hk, prv_nxt]]

/-! ## What each device owes; the levels -/

/-- What device `c` owes once the transfers of the tile steps below `r` are issued. -/
def owed (c : Dev nD) (r : ℕ) : CellTallies nD τ sig Unit := ∑ k ∈ Finset.Ico r 24, tallyAt (recvCell (peer c k) k) () N
/-- What it owes before its second signal, to `nxt c`; -/
def O₁ (c : Dev nD) : CellTallies nD τ sig Unit := owed c 0 + tallyAt (barCell (nxt c)) () 1
/-- at launch. -/
def O₀ (c : Dev nD) : CellTallies nD τ sig Unit := O₁ c + tallyAt (barCell (prv c)) () 1

theorem owed_succ (c : Dev nD) (r : ℕ) (h : r < 24) : owed c r = owed c (r + 1) + tallyAt (recvCell (peer c r) r) () N := by
  have e : Finset.Ico r 24 = insert r (Finset.Ico (r + 1) 24) := by
    ext x; rw [Finset.mem_insert, Finset.mem_Ico, Finset.mem_Ico]; omega
  unfold owed
  rw [e, Finset.sum_insert (fun hr => by rw [Finset.mem_Ico] at hr; omega), add_comm]
theorem owed_end (c : Dev nD) : owed c 24 = 0 := by unfold owed; rw [Finset.Ico_self, Finset.sum_empty]

def L (g : GSem nD τ sig) : Finset Unit := if g.1.2 = .tc then {()} else ∅
/-- Barrier cells at 1, the arrival cells of step `s` at `2 + s`, everything else at 0. -/
def lv (g : GSem nD τ sig) (_ : Unit) : ℕ := match g.2 with | .reg _ => 1 | .dma s => if s.val < 28 then 0 else 2 + (s.val - 28) / 8

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_recv (c : Dev nD) (k : ℕ) (h : k < 24) (u : Unit) : lv (recvCell c k) u = 2 + k / 8 := by
  show (if (recvSem k).val < 28 then 0 else 2 + ((recvSem k).val - 28) / 8) = _
  rw [recvSem_val ⟨k, h⟩, if_neg (show ¬ 28 + k < 28 by omega)]
  show 2 + (28 + k - 28) / 8 = _
  rw [Nat.add_sub_cancel_left]
theorem lv_low (c : Dev nD) (s : DmaSem sig) (h : s.val < 28) (u : Unit) : lv ((c : Thread nD τ), .dma s) u = 0 := if_pos h

theorem owed_pos {c : Dev nD} {r : ℕ} {g : GSem nD τ sig} {u : Unit} (h : 0 < owed c r g u) :
    ∃ k, r ≤ k ∧ k < 24 ∧ g = recvCell (peer c k) k := by
  unfold owed at h
  rw [Finset.sum_apply, Finsupp.finset_sum_apply] at h
  obtain ⟨k, hk, h'⟩ := Finset.exists_ne_zero_of_sum_ne_zero (Nat.pos_iff_ne_zero.mp h)
  rw [tallyAt_apply] at h'
  refine ⟨k, (Finset.mem_Ico.mp hk).1, (Finset.mem_Ico.mp hk).2, ?_⟩
  by_contra hn
  exact h' (if_neg fun e => hn e.1)

theorem O₀_pos {c : Dev nD} {g : GSem nD τ sig} {u : Unit} (h : 0 < O₀ c g u) :
    (∃ k, k < 24 ∧ g = recvCell (peer c k) k) ∨ ∃ d, g = barCell d := by
  unfold O₀ O₁ at h
  rw [Pi.add_apply, Finsupp.add_apply, Pi.add_apply, Finsupp.add_apply, tallyAt_apply, tallyAt_apply] at h
  by_contra hn
  rw [not_or, not_exists, not_exists] at hn
  rw [if_neg (fun h' : g = barCell (prv c) ∧ u = () => hn.2 (prv c) h'.1), if_neg (fun h' : g = barCell (nxt c) ∧ u = () => hn.2 (nxt c) h'.1), Nat.add_zero] at h
  obtain ⟨k, -, hk, e⟩ := owed_pos (c := c) (r := 0) h
  exact hn.1 k ⟨hk, e⟩

omit [FloatOps F] in
/-- A device that owes only arrivals of tile steps from `r` on may wait on a cell below the level of step `r / 8`. -/
theorem mayWait_owed (c : Dev nD) (r : ℕ) (sm : SemLoc sig) (h : r < 24 → lv ((c : Thread nD τ), sm) () < 2 + r / 8) :
    (levAts L lv : sProp 𝕄) ⊢ MayWait (c : Thread nD τ) sm () (owed c r) :=
  MayOwe.of_cut (L := L) (lev := lv) (lv ((c : Thread nD τ), sm) ())
    (fun p hp => by rw [Finset.mem_singleton.mp hp, L_tc]; exact Finset.mem_singleton_self _)
    (fun g u hg => by obtain ⟨k, -, -, rfl⟩ := owed_pos hg; rw [L_tc]; exact Finset.mem_singleton_self _)
    (fun p hp => by rw [Finset.mem_singleton.mp hp])
    (fun g u hg => by
      obtain ⟨k, hr, hk, rfl⟩ := owed_pos hg
      rw [lv_recv _ _ hk]
      have : r / 8 ≤ k / 8 := Nat.div_le_div_right hr
      have := h (by omega)
      omega)

omit [FloatOps F] in
/-- A device may wait on a low cell whatever it owes of the ring's. -/
theorem mayWait_stage (c : Dev nD) (q : DmaSem sig) (hq : q.val < 28) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, -, rfl⟩ | ⟨d, rfl⟩ <;> (rw [L_tc]; exact Finset.mem_singleton_self _))
      (fun p hp => by rw [Finset.mem_singleton.mp hp, lv_low c q hq])
      (fun g u hg => by
        rcases O₀_pos hg with ⟨k, hk, rfl⟩ | ⟨d, rfl⟩
        · rw [lv_recv _ _ hk]; omega
        · rw [lv_bar]; omega)
  · rw [MayWait_zero]; iintro -; iempintro

end Cert.KernelIdeal.RingProof
-- ==== Proof.KernelIdeal.State.lean ====
/-
What a device holds between two effects of its body.

The body runs over 32 tile steps, and each kind of effect happens once per tile step: the copy of a tile of `dy` is issued and
waited for, a block is stored to its send slot, sent, its departure waited for, a block is received. So what the device holds
between two effects is told by how often each has happened, and every effect moves one of these counters by one.
-/
module

public import proofs.«01_k».proof.Proof.KernelIdeal.Schedule
public import Idealize.SL.BI.BigOpNat

@[expose] public section

set_option maxRecDepth 16384

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells of a device, and their records -/

/-- A device's cells: its barrier cell, its departure cells, its arrival cells. -/
abbrev CK : Type := Unit ⊕ (Fin 24 ⊕ Fin 24)
/-- The semaphore of a cell; -/
abbrev csem : CK → SemLoc sig
  | .inl _ => .reg barS
  | .inr (.inl k) => .dma (sendSem k.val)
  | .inr (.inr k) => .dma (recvSem k.val)
/-- the cell itself. -/
abbrev kcell (ck : Dev nD × CK) : GSem nD τ sig := ((ck.1 : Thread nD τ), csem ck.2)

variable (K : Dev nD × CK → ℕ)

/-- Every cell's invariant under its name, every cell's first round reached, the cells' levels. -/
def records : sProp 𝕄 :=
  iprop(bigSep Finset.univ (fun ck => cellInv ER (ringRd m ρ) (K ck) (kcell ck)) ∗ bigSep Finset.univ (fun ck => reached ER (kcell ck) 0) ∗ levAts L lv)

instance records_persistent : BI.Persistent (records m ρ K) := by unfold records; infer_instance

theorem records_inv (ck : Dev nD × CK) : records m ρ K ⊢ cellInv ER (ringRd m ρ) (K ck) (kcell ck) := by
  unfold records; iintro ⟨H, -⟩
  iapply (show (bigSep Finset.univ (fun ck => cellInv ER (ringRd m ρ) (K ck) (kcell ck)) : sProp 𝕄) ⊢ cellInv ER (ringRd m ρ) (K ck) (kcell ck) from bigSep_elim (Finset.mem_univ ck)); iexact H
theorem records_reached (ck : Dev nD × CK) : records m ρ K ⊢ reached ER (kcell ck) 0 := by
  unfold records; iintro ⟨-, H, -⟩
  iapply (show (bigSep Finset.univ (fun ck => reached ER (kcell ck) 0) : sProp 𝕄) ⊢ reached ER (kcell ck) 0 from bigSep_elim (Finset.mem_univ ck)); iexact H
theorem records_lev : records m ρ K ⊢ levAts L lv := by
  unfold records; iintro ⟨-, -, H⟩; iexact H

/-! ## The parts of the state -/

/-- The share of `dy` that the copies into the slot of tile step `k` read. -/
def dyQ (k : ℕ) : PosShare TreeShare := if k % 2 = 0 then PosShare.left fullShare else PosShare.right fullShare

/-- Device `c` holds the slot `M` of the staging buffer of `dy`, its contents satisfying `φ`. -/
def dySlot (c : Dev nD) (M : Memref sig .tc .vmem S2048x1024 .bf16) (φ : Vec F S2048x1024 .bf16 → Prop) : sProp 𝕄 :=
  iprop(∃ f : Buf (Elt F) (M.view.loc (c : Thread nD τ)), (M.view.loc (c : Thread nD τ) ↦[M.view.set]{fullShare} f) ∗ ⌜φ (M.view.read (Elt F) f)⌝)

/-- The copy of tile step `k` is not issued: its slot (holding the tile of two tile steps before, if any), its share of `dy`,
    its semaphore at zero. -/
def dyFree (c : Dev nD) (k : ℕ) : sProp 𝕄 :=
  iprop(dySlot c (dbS k) (fun p => 2 ≤ k → p = dyT m c (k - 2))
    ∗ (dyM.view.loc (c : Thread nD τ) ↦{dyQ k} m ((c : Thread nD τ).loc main_arg1))
    ∗ semVal ((c : Thread nD τ), SemLoc.dma (dySem k)) 0)

/-- What a tile copy of `dy` credits. -/
abbrev Ndy : ℕ := (dbS 0).view.dmaCredit

/-- The copy of tile step `k` is in flight. -/
def dyFly (c : Dev nD) (k : ℕ) : sProp 𝕄 :=
  iprop(Transfers.Flight EC (c : Thread nD τ) (.dma (dySem k)) () Ndy
      iprop(dySlot c (dbS k) (fun p => p = dyT m c k) ∗ ((dyS k).view.loc (c : Thread nD τ) ↦[(dyS k).view.set]{dyQ k} m ((c : Thread nD τ).loc main_arg1)))
    ∗ (dyM.view.loc (c : Thread nD τ) ↦[Finset.univ \ (dyS k).view.set]{dyQ k} m ((c : Thread nD τ).loc main_arg1)))

/-- `a` copies of `dy` issued, `w` waited for. -/
def Sdy (c : Dev nD) (a w : ℕ) : sProp 𝕄 :=
  iprop(bigSep (Finset.Ico a (w + 2)) (dyFree m c) ∗ bigSep (Finset.Ico w a) (dyFly m c))

/-- The staged rows of `x`; the barrier is passed. -/
def Sx (c : Dev nD) : sProp 𝕄 := iprop(((xM.view.loc (c : Thread nD τ)) ↦{fullShare} xstg m ρ c) ∗ atPos ER (barCell c) 1 ∅ 0)

/-- The result after `o` of its tiles are stored. -/
def Sout (c : Dev nD) (f : (cc0_stg1_0 : Ref sig .tc).ty.Contents (Elt F)) (o : ℕ) : sProp 𝕄 :=
  iprop((oM.view.loc (c : Thread nD τ)) ↦{fullShare} outW m ρ c f o)

/-- What the transfer of tile step `k` needs: the neighbour's receive slot, the two duties it pays, the device's position at
    the departure cell. -/
def toSend (c : Dev nD) (k : ℕ) : sProp 𝕄 :=
  iprop(slotAny (peer c k) (rbS k) ∗ dutyTok ER (recvCell (peer c k) k) 0 false ∗ dutyTok ER (sendCell c k) 0 false ∗ atPos ER (sendCell c k) 0 ∅ 0)

/-- The transfer of tile step `k` has left: the right to wait for its departure. -/
def leaving (c : Dev nD) (k : ℕ) : sProp 𝕄 := iprop(cred (tallyAt (sendCell c k) () N) ∗ atPos ER (sendCell c k) 0 ∅ 0)

/-- `r` transfers issued, `st` blocks stored to send slots, `sw` departures waited for. -/
def Ssend (c : Dev nD) (r st sw : ℕ) : sProp 𝕄 :=
  iprop((∃ W, owes (c : Thread nD τ) (owed c r) W) ∗ bigSep (Finset.Ico r 24) (toSend c)
    ∗ bigSep (Finset.Ico st (sw + 8)) (fun k => slotAny c (sbS k))
    ∗ bigSep (Finset.Ico r st) (fun k => slotAt c (sbS k) (sum m ρ c k))
    ∗ bigSep (Finset.Ico sw r) (leaving c)
    ∗ bigSep (Finset.Ico 0 sw) (fun k => atPos ER (sendCell c k) 1 ∅ 0))

/-- The block of tile step `k` has not been received: the right to wait for it. -/
def coming (c : Dev nD) (k : ℕ) : sProp 𝕄 := iprop(cred (tallyAt (recvCell c k) () N) ∗ atPos ER (recvCell c k) 0 ∅ 0)
/-- It has been: the receive slot holds what the neighbour finished. -/
def come (c : Dev nD) (k : ℕ) : sProp 𝕄 := iprop(slotAt c (rbS k) (sum m ρ (src c k) k) ∗ atPos ER (recvCell c k) 1 ∅ 0)

/-- `v` blocks received. -/
def Srecv (c : Dev nD) (v : ℕ) : sProp 𝕄 := iprop(bigSep (Finset.Ico v 24) (coming c) ∗ bigSep (Finset.Ico 0 v) (come m ρ c))

/-- What device `c` holds: `a` copies of `dy` issued, `w` waited for, `r` transfers issued, `st` blocks stored to send slots, `sw`
    departures and `v` arrivals waited for, `o` tiles of the result stored over `f`. -/
def St (f : (cc0_stg1_0 : Ref sig .tc).ty.Contents (Elt F)) (c : Dev nD) (a w r st sw v o : ℕ) : sProp 𝕄 :=
  iprop(records m ρ K ∗ Sdy m c a w ∗ Sx m ρ c ∗ Sout m ρ c f o ∗ Ssend m ρ c r st sw ∗ Srecv m ρ c v)

abbrev 𝒱₀ : Variants := Variants.none

/-- The weakest precondition of a program that device `c` runs. -/
@[irreducible] def WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

end Cert.KernelIdeal.RingProof
-- ==== Proof.KernelIdeal.Steps.lean ====
/-
One effect of the body, from the state before it to the state after it.
-/
module

public import proofs.«01_k».proof.Proof.KernelIdeal.State

@[expose] public section

set_option maxRecDepth 16384

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Dev nD × CK → ℕ}
variable {f : (cc0_stg1_0 : Ref sig .tc).ty.Contents (Elt F)} {c : Dev nD} {a w r st sw v o : ℕ}

/-! ## The copies of `dy` -/

omit [FloatOps F] in
theorem dbS_add_two (k : ℕ) : dbS (k + 2) = dbS k := by
  have h : ∀ (i j : ℕ) (e : i = j) (hi : ∀ a, (![i, 0, 0] : Fin S2x2048x1024.rank → ℕ) a + S1x2048x1024.size a ≤ S2x2048x1024.size a)
      (hj : ∀ a, (![j, 0, 0] : Fin S2x2048x1024.rank → ℕ) a + S1x2048x1024.size a ≤ S2x2048x1024.size a),
      (dbM.slice (Rect.unit (s := S2x2048x1024) ![i, 0, 0] S1x2048x1024.size hi) (fun _ => rfl)).squeeze S2048x1024 squeezes_S1x2048x1024_S2048x1024
        = (dbM.slice (Rect.unit (s := S2x2048x1024) ![j, 0, 0] S1x2048x1024.size hj) (fun _ => rfl)).squeeze S2048x1024 squeezes_S1x2048x1024_S2048x1024 := by
    intro i j e hi hj; subst e; rfl
  exact h _ _ (Nat.add_mod_right k 2) _ _
omit [FloatOps F] in
theorem dySem_add_two (k : ℕ) : dySem (k + 2) = dySem k := by
  rw [dySem_mod (k + 2), Nat.add_mod_right, ← dySem_mod]
omit [FloatOps F] in
theorem dyQ_add_two (k : ℕ) : dyQ (k + 2) = dyQ k := by unfold dyQ; rw [Nat.add_mod_right]

/-- The next copy of a tile of `dy` is issued. -/
theorem step_dyStart {α : Type} {Q : α → sProp 𝕄} {kk : PUnit → Prog (TpuEff nD τ sig (Elt F) Λ₀ .tc) α} {hsrc hdst hsem}
    (ha : a < w + 2) (hwa : w ≤ a)
    (H : St m ρ K f c (a + 1) w r st sw v o ⊢ WP c (kk ⟨⟩) Q) :
    St m ρ K f c a w r st sw v o
      ⊢ WP c (Prog.lift (.enqueueDma (dyS a) (.here (dbS a)) (.dma (dySem a)) hsrc hdst hsem) >>= kk) Q := by
  rw [Prog.bind_lift]
  unfold WP at H ⊢
  unfold St Sdy
  rw [bigSep_Ico_succ_bot ha]
  unfold dyFree dySlot
  iintro ⟨#HR, ⟨⟨⟨⟨%g, Hd, %hg⟩, Hy, Hv⟩, HF⟩, HG⟩, Hrest⟩
  ihave Hy2 := (pointsTo_split_subset (Finset.subset_univ (dyS a).view.set)).1 $$ Hy
  icases Hy2 with ⟨Hs, Hy⟩
  iapply (Transfers.wp_dmaLocal EC 𝒱₀ (c : Thread nD τ) none (src := dyS a) (dst := dbS a) (sm := .dma (dySem a)) () Ndy rfl (View.dmaCredit_pos _ (by decide)) (Finset.Subset.refl _)) $$ [Hs Hd Hv]
  · isplitl [Hs]; · iexact Hs
    isplitl [Hd]; · iexact Hd
    iexact Hv
  iintro HFl
  iapply H
  unfold St Sdy
  isplitr; · iexact HR
  isplitr [Hrest]
  · rw [bigSep_Ico_succ_top hwa]
    isplitl [HF]; · iexact HF
    isplitr [HG]
    · unfold dyFly
      isplitl [HFl]
      · iapply (Transfers.Flight_mono EC (c : Thread nD τ) ?_) $$ HFl
        unfold dySlot
        iintro ⟨Hd, Hs⟩
        isplitl [Hd]
        · iexists _
          isplitl [Hd]; · iexact Hd
          ipureintro
          exact View.read_write_univ _ _
        · iexact Hs
      · iexact Hy
    · iexact HG
  · iexact Hrest

/-- The next copy of a tile of `dy` is waited for. -/
theorem step_dyWait {α : Type} {Q : α → sProp 𝕄} {kk : PUnit → Prog (TpuEff nD τ sig (Elt F) Λ₀ .tc) α} {hsrc hdst}
    (hw : w < a) (ha : a ≤ w + 2)
    (H : St m ρ K f c a (w + 1) r st sw v o ⊢ WP c (kk ⟨⟩) Q) :
    St m ρ K f c a w r st sw v o
      ⊢ WP c (Prog.lift (.waitDma2 (dySem w) (dyS w) (dbS w) hsrc hdst) >>= kk) Q := by
  rw [Prog.bind_lift]
  unfold WP at H ⊢
  unfold St Sdy Ssend
  rw [bigSep_Ico_succ_bot hw]
  unfold dyFly
  iintro ⟨#HR, ⟨HG, ⟨HFl, Hy⟩, HF⟩, Hx, Ho, ⟨⟨%W, HO⟩, Hs⟩, Hv⟩
  ihave #Hlev := (records_lev m ρ K) $$ HR
  iapply (Transfers.wp_waitLocalO EC 𝒱₀ (c : Thread nD τ) none (sem := dySem w) (srcw := dyS w) (dstw := dbS w) (hsrc := hsrc) (hdst := hdst) () (N := Ndy) rfl) $$ [HFl HO]
  · isplitl [HFl]; · iexact HFl
    isplitl [HO]; · iexact HO
    iapply (mayWait_owed c r (.dma (dySem w)) (fun _ => by rw [lv_low _ _ (dySem_lt w)]; omega)); iexact Hlev
  iintro ⟨⟨Hd, Hys⟩, Hsem, HO⟩
  iapply H
  unfold St Sdy Ssend
  isplitr; · iexact HR
  isplitr [Hx Ho HO Hs Hv]
  · isplitr [HF]
    · rw [show w + 1 + 2 = w + 2 + 1 from rfl, bigSep_Ico_succ_top ha]
      isplitr [HG]
      · unfold dyFree
        rw [dbS_add_two, dySem_add_two, dyQ_add_two]
        isplitl [Hd]
        · unfold dySlot
          icases Hd with ⟨%g, Hd, %hg⟩
          iexists g
          isplitl [Hd]; · iexact Hd
          ipureintro
          intro _
          rw [hg, Nat.add_sub_cancel]
        isplitl [Hys Hy]
        · iapply (pointsTo_split_subset (Finset.subset_univ (dyS w).view.set)).2
          isplitl [Hys]; · iexact Hys
          iexact Hy
        iexact Hsem
      · iexact HG
    · iexact HF
  isplitl [Hx]; · iexact Hx
  isplitl [Ho]; · iexact Ho
  isplitr [Hv]
  · isplitl [HO]; · iexists _; iexact HO
    iexact Hs
  iexact Hv

/-! ## Arrivals and departures -/

/-- The next block is waited for. -/
theorem step_recvWait {α : Type} {Q : α → sProp 𝕄} {kk : PUnit → Prog (TpuEff nD τ sig (Elt F) Λ₀ .tc) α} {hsrc hdst}
    (hv : v < 24) (hr : r < 24 → v + 8 ≤ r)
    (H : St m ρ K f c a w r st sw (v + 1) o ⊢ WP c (kk ⟨⟩) Q) :
    St m ρ K f c a w r st sw v o
      ⊢ WP c (Prog.lift (.waitDma2 (recvSem v) (sbS v) (rbS v) hsrc hdst) >>= kk) Q := by
  rw [Prog.bind_lift]
  unfold WP at H ⊢
  unfold St Ssend Srecv
  rw [bigSep_Ico_succ_bot hv]
  unfold coming
  iintro ⟨#HR, Hdy, Hx, Ho, ⟨⟨%W, HO⟩, Hs⟩, ⟨⟨Hc, Hat⟩, HF⟩, HG⟩
  ihave #Hlev := (records_lev m ρ K) $$ HR
  ihave #HI := (records_inv m ρ K (c, .inr (.inr ⟨v, hv⟩))) $$ HR
  iapply (Rounds.wp_wait_rest_token 𝒱₀ ER (ringRd m ρ) (c : Thread nD τ) none (κ := K (c, .inr (.inr ⟨v, hv⟩)))
      (wpE_waitDma2_eq 𝒱₀ (c : Thread nD τ) none Set.univ) (Set.mem_univ _) () (O := owed c r) (W := W) (R := 0) (m := 0) (T := ∅)
      (by rw [Nat.zero_add, expect_recv m ρ c v hv])) $$ [Hc HO Hat]
  · isplitr; · iexact HI
    isplitl [Hc]; · iexact Hc
    isplitl [HO]; · iexact HO
    isplitr; · iapply (mayWait_owed c r (.dma (recvSem v)) (fun h => by have := hr h; rw [lv_recv _ _ hv]; omega)); iexact Hlev
    iexact Hat
  iintro ⟨HO, Hat, -, Hpay⟩
  ihave Hp := (Entails.of_eq (rest_recv m ρ c v hv)) $$ Hpay
  iapply H
  unfold St Ssend Srecv
  isplitr; · iexact HR
  isplitl [Hdy]; · iexact Hdy
  isplitl [Hx]; · iexact Hx
  isplitl [Ho]; · iexact Ho
  isplitl [HO Hs]
  · isplitl [HO]; · iexists _; iexact HO
    iexact Hs
  isplitl [HF]; · iexact HF
  rw [bigSep_Ico_succ_top (Nat.zero_le v)]
  isplitr [HG]
  · unfold come
    isplitl [Hp]; · iexact Hp
    iexact Hat
  · iexact HG

omit [FloatOps F] in
theorem sbS_add_eight (k : ℕ) : sbS (k + 8) = sbS k := by
  have h : ∀ (i j : ℕ) (e : i = j) (hi : ∀ a, (![i, 0, 0] : Fin S8x512x1024.rank → ℕ) a + S1x512x1024.size a ≤ S8x512x1024.size a)
      (hj : ∀ a, (![j, 0, 0] : Fin S8x512x1024.rank → ℕ) a + S1x512x1024.size a ≤ S8x512x1024.size a),
      (sbM.slice (Rect.unit (s := S8x512x1024) ![i, 0, 0] S1x512x1024.size hi) (fun _ => rfl)).squeeze S512x1024 squeezes_S1x512x1024_S512x1024
        = (sbM.slice (Rect.unit (s := S8x512x1024) ![j, 0, 0] S1x512x1024.size hj) (fun _ => rfl)).squeeze S512x1024 squeezes_S1x512x1024_S512x1024 := by
    intro i j e hi hj; subst e; rfl
  exact h _ _ (Nat.add_mod_right k 8) _ _

/-- The next departure is waited for: its send slot is free again. -/
theorem step_sendWait {α : Type} {Q : α → sProp 𝕄} {kk : PUnit → Prog (TpuEff nD τ sig (Elt F) Λ₀ .tc) α} {hsrc hdst}
    (hw : sw < 24) (hr : sw < r) (hs : st ≤ sw + 8)
    (H : St m ρ K f c a w r st (sw + 1) v o ⊢ WP c (kk ⟨⟩) Q) :
    St m ρ K f c a w r st sw v o
      ⊢ WP c (Prog.lift (.waitDma2 (sendSem sw) (rbS sw) (sbS sw) hsrc hdst) >>= kk) Q := by
  rw [Prog.bind_lift]
  unfold WP at H ⊢
  unfold St Ssend
  rw [bigSep_Ico_succ_bot hr]
  unfold leaving
  iintro ⟨#HR, Hdy, Hx, Ho, ⟨⟨%W, HO⟩, Hto, Hfr, Hst, ⟨⟨Hc, Hat⟩, HL⟩, Hdone⟩, Hv⟩
  ihave #Hlev := (records_lev m ρ K) $$ HR
  ihave #HI := (records_inv m ρ K (c, .inr (.inl ⟨sw, hw⟩))) $$ HR
  iapply (Rounds.wp_wait_rest_token 𝒱₀ ER (ringRd m ρ) (c : Thread nD τ) none (κ := K (c, .inr (.inl ⟨sw, hw⟩)))
      (wpE_waitDma2_eq 𝒱₀ (c : Thread nD τ) none Set.univ) (Set.mem_univ _) () (O := owed c r) (W := W) (R := 0) (m := 0) (T := ∅)
      (by rw [Nat.zero_add, expect_send m ρ c sw hw])) $$ [Hc HO Hat]
  · isplitr; · iexact HI
    isplitl [Hc]; · iexact Hc
    isplitl [HO]; · iexact HO
    isplitr
    · iapply (mayWait_owed c r (.dma (sendSem sw)) (fun _ => by rw [lv_low _ _ (by rw [sendSem_val ⟨sw, hw⟩]; show 4 + sw < 28; omega)]; omega)); iexact Hlev
    iexact Hat
  iintro ⟨HO, Hat, -, Hpay⟩
  ihave Hp := (Entails.of_eq (rest_send m ρ c sw hw)) $$ Hpay
  iapply H
  unfold St Ssend
  isplitr; · iexact HR
  isplitl [Hdy]; · iexact Hdy
  isplitl [Hx]; · iexact Hx
  isplitl [Ho]; · iexact Ho
  isplitr [Hv]
  · isplitl [HO]; · iexists _; iexact HO
    isplitl [Hto]; · iexact Hto
    isplitl [Hfr Hp]
    · rw [show sw + 1 + 8 = sw + 8 + 1 by omega, bigSep_Ico_succ_top hs, sbS_add_eight]
      isplitl [Hp]; · iexact Hp
      iexact Hfr
    isplitl [Hst]; · iexact Hst
    isplitl [HL]; · iexact HL
    rw [bigSep_Ico_succ_top (Nat.zero_le sw)]
    isplitl [Hat]; · iexact Hat
    iexact Hdone
  iexact Hv

/-- The next block leaves for the neighbour. -/
theorem step_send {α : Type} {Q : α → sProp 𝕄} {kk : PUnit → Prog (TpuEff nD τ sig (Elt F) Λ₀ .tc) α} {n : Dev nD}
    {hsc : (rbS r : Memref sig (Dev.tc n : Thread nD τ).2.kind .vmem S512x1024 .bf16).view.ref.isScScratch = false} {hsrc hdst}
    {hsem : DmaTarget.Typed .vmem (.dma (recvSem r)) (.remote (Dev.tc n : Thread nD τ) (rbS r : Memref sig .tc .vmem S512x1024 .bf16) (.dma (sendSem r)) hsc)}
    (hp : n = peer c r) (h24 : r < 24) (hs : r < st) (hw : sw ≤ r)
    (H : St m ρ K f c a w (r + 1) st sw v o ⊢ WP c (kk ⟨⟩) Q) :
    St m ρ K f c a w r st sw v o
      ⊢ WP c (Prog.lift (.enqueueDma (sbS r) (.remote (Dev.tc n : Thread nD τ) (rbS r) (.dma (sendSem r)) hsc) (.dma (recvSem r)) hsrc hdst hsem) >>= kk) Q := by
  subst hp
  rw [Prog.bind_lift]
  unfold WP at H ⊢
  unfold St Ssend
  rw [bigSep_Ico_succ_bot h24, bigSep_Ico_succ_bot hs]
  unfold toSend
  iintro ⟨#HR, Hdy, Hx, Ho, ⟨⟨%W, HO⟩, ⟨⟨Hn, Ht₂, Ht₁, Hat⟩, Hto⟩, Hfr, ⟨Hme, Hst⟩, HL, Hdone⟩, Hv⟩
  unfold slotAny slotAt
  icases Hn with ⟨%fn, Hn⟩
  icases Hme with ⟨%fs, Hme, %hfs⟩
  ihave #HI₁ := (records_inv m ρ K (c, .inr (.inl ⟨r, h24⟩))) $$ HR
  ihave #HI₂ := (records_inv m ρ K (peer c r, .inr (.inr ⟨r, h24⟩))) $$ HR
  ihave #Hr₁ := (records_reached m ρ K (c, .inr (.inl ⟨r, h24⟩))) $$ HR
  ihave #Hr₂ := (records_reached m ρ K (peer c r, .inr (.inr ⟨r, h24⟩))) $$ HR
  iapply (Rounds.wp_send_pointsTo 𝒱₀ ER (ringRd m ρ) (c : Thread nD τ) none (c' := (peer c r : Thread nD τ)) (src := sbS r) (dst := rbS r)
      (κ₁ := K (c, .inr (.inl ⟨r, h24⟩))) (κ₂ := K (peer c r, .inr (.inr ⟨r, h24⟩)))
      (r₁ := 0) (r₂ := 0) (d₁ := false) (d₂ := false) (fs := fs) (fd := fn)
      (by rw [duties_send m ρ c r h24]; exact Finset.mem_singleton_self _) (by rw [duties_recv m ρ (peer c r) r h24]; exact Finset.mem_singleton_self _)
      () () N rfl (amount_dma m ρ c _ false) (amount_dma m ρ (peer c r) _ false) (owed c (r + 1)) (owed_succ c r h24) (W := W)
      (by rw [payload_send m ρ c r h24]; unfold slotAny; iintro H; iexists fs; iexact H)
      (by
        rw [payload_recv m ρ (peer c r) r h24, src_peer]
        unfold slotAt
        iintro H
        iexists _
        isplitl [H]; · iexact H
        ipureintro
        rw [← hfs]
        exact View.read_write_univ _ _)) $$ [Hme Hn HO Ht₁ Ht₂]
  · isplitr; · iexact HI₁
    isplitr; · iexact HI₂
    isplitl [Hme]; · iexact Hme
    isplitl [Hn]; · iexact Hn
    isplitl [HO]; · iexact HO
    isplitl [Ht₁]; · iexact Ht₁
    isplitr; · iexact Hr₁
    isplitl [Ht₂]; · iexact Ht₂
    iexact Hr₂
  iintro ⟨Hc, HO⟩
  iapply H
  unfold St Ssend
  isplitr; · iexact HR
  isplitl [Hdy]; · iexact Hdy
  isplitl [Hx]; · iexact Hx
  isplitl [Ho]; · iexact Ho
  isplitr [Hv]
  · isplitl [HO]; · iexists _; iexact HO
    isplitl [Hto]; · unfold toSend slotAny; iexact Hto
    isplitl [Hfr]; · unfold slotAny; iexact Hfr
    isplitl [Hst]; · unfold slotAt; iexact Hst
    isplitl [HL Hc Hat]
    · rw [bigSep_Ico_succ_top hw]
      unfold leaving
      isplitl [Hc Hat]
      · isplitl [Hc]; · iexact Hc
        iexact Hat
      · iexact HL
    iexact Hdone
  iexact Hv

end Cert.KernelIdeal.RingProof
-- ==== Proof.KernelIdeal.Moves.lean ====
/-
The loads and stores of the body, from the state before to the state after.
-/
module

public import proofs.«01_k».proof.Proof.KernelIdeal.Steps

@[expose] public section

set_option maxRecDepth 16384

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Dev nD × CK → ℕ}
variable {f : (cc0_stg1_0 : Ref sig .tc).ty.Contents (Elt F)} {c : Dev nD} {a w r st sw v o : ℕ}

/-! ## A slot of a buffer, and the rectangle of the buffer it squeezes -/

section Slots
variable {s s' : Shape} {e : EltTy} (M : Memref sig .tc .vmem s e) (R : Rect s) (hr : ∀ a, R.stride a = 1) (hq : R.shape.Squeezes s')

omit [FloatOps F] in
theorem slot_set : ((M.slice R hr).squeeze s' hq).view.set = (M.access R).set := View.set_reshape _ _

omit [FloatOps F] in
/-- What a load through the rectangle reads of a slot holding `p`. -/
theorem slot_load (g : M.view.ty.Contents (Elt F)) (p : s'.Idx → Elt F e)
    (h : ((M.slice R hr).squeeze s' hq).view.read (Elt F) g = p) (hc : s'.ShapeCasts R.shape) :
    (M.access R).read (Elt F) g = shapeCast R.shape p hc := by
  rw [← h, Memref.read_squeeze_slice M R hr hq hc.symm, shapeCast_shapeCast]; rfl

omit [FloatOps F] in
/-- What the slot holds after a store of `p` through the rectangle. -/
theorem slot_store (g : M.view.ty.Contents (Elt F)) (p : s'.Idx → Elt F e) (hc : s'.ShapeCasts R.shape) :
    ((M.slice R hr).squeeze s' hq).view.read (Elt F) ((M.access R).write (Elt F) g (shapeCast R.shape p hc) Finset.univ) = p := by
  rw [Memref.read_squeeze_slice M R hr hq hc.symm]
  rw [show M.view.readAt (Elt F) R.toLoadRect ((M.access R).write (Elt F) g (shapeCast R.shape p hc) Finset.univ)
      = shapeCast R.shape p hc from View.read_write_univ _ _, shapeCast_shapeCast]

end Slots

/-! ## Loads -/

/-- A block of `x` is loaded. -/
theorem step_xLoad {α : Type} {Q : α → sProp 𝕄} (s p : ℕ) {off : Fin S2048x2048.rank → ℕ} {hoff hl}
    {kk : Vec F S2048x512 .bf16 → Prog (TpuEff nD τ sig (Elt F) Λ₀ .tc) α}
    (e : off = ![0, 512 * chunk c s p])
    (H : St m ρ K f c a w r st sw v o ⊢ WP c (kk (xv m ρ c s p)) Q) :
    St m ρ K f c a w r st sw v o
      ⊢ WP c (Prog.lift (.load xM (Rect.unit (s := S2048x2048) off S2048x512.size hoff).toLoadRect hl) >>= kk) Q := by
  subst e
  rw [Prog.bind_lift]
  unfold WP at H ⊢
  unfold St Sx
  iintro ⟨#HR, Hdy, ⟨Hx, Hb⟩, Hrest⟩
  iapply (wp_load 𝒱₀ (c : Thread nD τ) none Set.univ (m := xM) (Finset.subset_univ _)) $$ Hx
  iintro Hx
  iapply H
  unfold St Sx
  isplitr; · iexact HR
  isplitl [Hdy]; · iexact Hdy
  isplitr [Hrest]
  · isplitl [Hx]; · iexact Hx
    iexact Hb
  iexact Hrest

/-- The tile of `dy` last waited for is loaded from its slot. -/
theorem step_dyLoad {α : Type} {Q : α → sProp 𝕄} {k : ℕ} {hl}
    {kk : Vec F S1x2048x1024 .bf16 → Prog (TpuEff nD τ sig (Elt F) Λ₀ .tc) α}
    (ha : a ≤ k + 2)
    (H : St m ρ K f c a (k + 1) r st sw v o ⊢ WP c (kk (dyv m c k)) Q) :
    St m ρ K f c a (k + 1) r st sw v o
      ⊢ WP c (Prog.lift (.load dbM (dbR k).toLoadRect hl) >>= kk) Q := by
  rw [Prog.bind_lift]
  unfold WP at H ⊢
  unfold St Sdy
  rw [show k + 1 + 2 = k + 2 + 1 from rfl, bigSep_Ico_succ_top ha]
  unfold dyFree dySlot
  rw [dbS_add_two]
  iintro ⟨#HR, ⟨⟨⟨⟨%g, Hd, %hg⟩, Hy⟩, HF⟩, HG⟩, Hrest⟩
  iapply (wp_load_rect 𝒱₀ (c : Thread nD τ) none Set.univ (m := dbM) (r := dbR k) (hl := hl) (by rw [slot_set])) $$ Hd
  iintro Hd
  rw [slot_load dbM (dbR k) (fun _ => rfl) squeezes_S1x2048x1024_S2048x1024 g (dyT m c k) (hg (Nat.le_add_left 2 k)) casts_dy]
  iapply H
  unfold St Sdy
  rw [show k + 1 + 2 = k + 2 + 1 from rfl, bigSep_Ico_succ_top ha]
  unfold dyFree dySlot
  rw [dbS_add_two]
  isplitr; · iexact HR
  isplitr [Hrest]
  · isplitr [HG]
    · isplitr [HF]
      · isplitl [Hd]
        · iexists g
          isplitl [Hd]; · iexact Hd
          ipureintro; exact hg
        · iexact Hy
      · iexact HF
    · iexact HG
  iexact Hrest

/-- A received block is loaded. -/
theorem step_recvLoad {α : Type} {Q : α → sProp 𝕄} {k : ℕ} {hl}
    {kk : Vec F S1x1x512x1024 .bf16 → Prog (TpuEff nD τ sig (Elt F) Λ₀ .tc) α}
    (H : St m ρ K f c a w r st sw (k + 1) o ⊢ WP c (kk (recvv (sum m ρ (src c k) k))) Q) :
    St m ρ K f c a w r st sw (k + 1) o
      ⊢ WP c (Prog.lift (.load rbM (rbR k).toLoadRect hl) >>= kk) Q := by
  rw [Prog.bind_lift]
  unfold WP at H ⊢
  unfold St Srecv
  rw [bigSep_Ico_succ_top (Nat.zero_le k)]
  unfold come slotAt
  iintro ⟨#HR, Hdy, Hx, Ho, Hs, Hto, ⟨⟨%g, Hd, %hg⟩, Hat⟩, HF⟩
  iapply (wp_load_rect 𝒱₀ (c : Thread nD τ) none Set.univ (m := rbM) (r := rbR k) (hl := hl) (by rw [slot_set])) $$ Hd
  iintro Hd
  rw [slot_load rbM (rbR k) (fun _ => rfl) squeezes_S1x1x512x1024_S512x1024 g _ hg casts_recv]
  iapply H
  unfold St Srecv
  rw [bigSep_Ico_succ_top (Nat.zero_le k)]
  unfold come slotAt
  isplitr; · iexact HR
  isplitl [Hdy]; · iexact Hdy
  isplitl [Hx]; · iexact Hx
  isplitl [Ho]; · iexact Ho
  isplitl [Hs]; · iexact Hs
  isplitl [Hto]; · iexact Hto
  isplitr [HF]
  · isplitl [Hd]
    · iexists g
      isplitl [Hd]; · iexact Hd
      ipureintro; exact hg
    · iexact Hat
  iexact HF

/-- The send slot about to be stored to is loaded; what it holds is not used. -/
theorem step_slotLoad {α : Type} {Q : α → sProp 𝕄} {hl}
    {kk : Vec F S1x512x1024 .bf16 → Prog (TpuEff nD τ sig (Elt F) Λ₀ .tc) α}
    (hs : st < sw + 8)
    (H : ∀ x, St m ρ K f c a w r st sw v o ⊢ WP c (kk x) Q) :
    St m ρ K f c a w r st sw v o
      ⊢ WP c (Prog.lift (.load sbM (sbR st).toLoadRect hl) >>= kk) Q := by
  rw [Prog.bind_lift]
  unfold WP at H ⊢
  unfold St Ssend
  rw [bigSep_Ico_succ_bot hs]
  unfold slotAny
  iintro ⟨#HR, Hdy, Hx, Ho, ⟨HO, Hto, ⟨⟨%g, Hd⟩, Hfr⟩, Hst⟩, Hv⟩
  iapply (wp_load_rect 𝒱₀ (c : Thread nD τ) none Set.univ (m := sbM) (r := sbR st) (hl := hl) (by rw [slot_set])) $$ Hd
  iintro Hd
  iapply (H _)
  unfold St Ssend
  rw [bigSep_Ico_succ_bot hs]
  isplitr; · iexact HR
  isplitl [Hdy]; · iexact Hdy
  isplitl [Hx]; · iexact Hx
  isplitl [Ho]; · iexact Ho
  isplitr [Hv]
  · isplitl [HO]; · iexact HO
    isplitl [Hto]; · iexact Hto
    isplitr [Hst]
    · isplitl [Hd]; · unfold slotAny; iexists g; iexact Hd
      unfold slotAny; iexact Hfr
    · iexact Hst
  iexact Hv

/-- A tile of the result is loaded; what it holds is not used. -/
theorem step_outLoad {α : Type} {Q : α → sProp 𝕄} {R : LoadRect S512x8192} {hl}
    {kk : Vec F R.shape .bf16 → Prog (TpuEff nD τ sig (Elt F) Λ₀ .tc) α}
    (H : ∀ x, St m ρ K f c a w r st sw v o ⊢ WP c (kk x) Q) :
    St m ρ K f c a w r st sw v o
      ⊢ WP c (Prog.lift (.load oM R hl) >>= kk) Q := by
  rw [Prog.bind_lift]
  unfold WP at H ⊢
  unfold St Sout
  iintro ⟨#HR, Hdy, Hx, Ho, Hrest⟩
  iapply (wp_load 𝒱₀ (c : Thread nD τ) none Set.univ (m := oM) (Finset.subset_univ _)) $$ Ho
  iintro Ho
  iapply (H _)
  unfold St Sout
  isplitr; · iexact HR
  isplitl [Hdy]; · iexact Hdy
  isplitl [Hx]; · iexact Hx
  isplitl [Ho]; · iexact Ho
  iexact Hrest

/-! ## Stores -/

theorem casts_send : S512x1024.ShapeCasts S1x512x1024 := squeezes_S1x512x1024_S512x1024.numel_eq.symm

/-- The next finished block is stored to its send slot. -/
theorem step_store {α : Type} {Q : α → sProp 𝕄} {x : Vec F S1x512x1024 .bf16} {hx hm}
    {kk : PUnit → Prog (TpuEff nD τ sig (Elt F) Λ₀ .tc) α}
    (hs : st < sw + 8) (hr : r ≤ st) (e : x = shapeCast S1x512x1024 (sum m ρ c st) casts_send)
    (H : St m ρ K f c a w r (st + 1) sw v o ⊢ WP c (kk ⟨⟩) Q) :
    St m ρ K f c a w r st sw v o
      ⊢ WP c (Prog.lift (.store sbM (sbR st) x Finset.univ hx hm) >>= kk) Q := by
  subst e
  rw [Prog.bind_lift]
  unfold WP at H ⊢
  unfold St Ssend
  rw [bigSep_Ico_succ_bot hs]
  unfold slotAny
  iintro ⟨#HR, Hdy, Hx, Ho, ⟨HO, Hto, ⟨⟨%g, Hd⟩, Hfr⟩, Hst, HL⟩, Hv⟩
  iapply (wp_store 𝒱₀ (c : Thread nD τ) none Set.univ (m := sbM) (r := sbR st) (Mk := Finset.univ) (by rw [slot_set]; exact View.setOn_subset_set _ _)) $$ Hd
  iintro Hd
  iapply H
  unfold St Ssend
  rw [bigSep_Ico_succ_top hr]
  isplitr; · iexact HR
  isplitl [Hdy]; · iexact Hdy
  isplitl [Hx]; · iexact Hx
  isplitl [Ho]; · iexact Ho
  isplitr [Hv]
  · isplitl [HO]; · iexact HO
    isplitl [Hto]; · iexact Hto
    isplitl [Hfr]; · unfold slotAny; iexact Hfr
    isplitr [HL]
    · isplitl [Hd]
      · unfold slotAt
        iexists _
        isplitl [Hd]; · iexact Hd
        ipureintro
        exact slot_store sbM (sbR st) (fun _ => rfl) squeezes_S1x512x1024_S512x1024 g (sum m ρ c st) casts_send
      · iexact Hst
    · iexact HL
  iexact Hv

/-- The next tile of the result is stored. -/
theorem step_outStore {α : Type} {Q : α → sProp 𝕄} {x : Vec F S512x1024 .bf16} {hx hm}
    {kk : PUnit → Prog (TpuEff nD τ sig (Elt F) Λ₀ .tc) α}
    (e : x = sum m ρ c (24 + o))
    (H : St m ρ K f c a w r st sw v (o + 1) ⊢ WP c (kk ⟨⟩) Q) :
    St m ρ K f c a w r st sw v o
      ⊢ WP c (Prog.lift (.store oM (oR (24 + o)) x Finset.univ hx hm) >>= kk) Q := by
  subst e
  rw [Prog.bind_lift]
  unfold WP at H ⊢
  unfold St Sout
  iintro ⟨#HR, Hdy, Hx, Ho, Hrest⟩
  iapply (wp_store 𝒱₀ (c : Thread nD τ) none Set.univ (m := oM) (r := oR (24 + o)) (Mk := Finset.univ) (Finset.subset_univ _)) $$ Ho
  iintro Ho
  iapply H
  unfold St Sout
  isplitr; · iexact HR
  isplitl [Hdy]; · iexact Hdy
  isplitl [Hx]; · iexact Hx
  isplitl [Ho]; · iexact Ho
  iexact Hrest

end Cert.KernelIdeal.RingProof
-- ==== Proof.KernelIdeal.Enter.lean ====
/-
The entry of the body: the two signals and the wait on the barrier semaphore.

With its signals a device lends each neighbour the receive slots that neighbour sends to; with the wait it is lent the slots it
sends to itself.
-/
module

public import proofs.«01_k».proof.Proof.KernelIdeal.Moves

@[expose] public section

set_option maxRecDepth 16384

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The two duties that the transfer of tile step `k` pays, and the device's position at the departure cell. -/
def sendRight (c : Dev nD) (k : ℕ) : sProp 𝕄 :=
  iprop(dutyTok ER (recvCell (peer c k) k) 0 false ∗ dutyTok ER (sendCell c k) 0 false ∗ atPos ER (sendCell c k) 0 ∅ 0)

/-- What a device holds of the ring's protocol at launch: the records, its duties at its neighbours' barriers, its barrier's
    credit and position, its send and receive rights. -/
def rights (m : (ℓ : Loc nD τ sig) → Buf (Elt F) ℓ) (ρ : Dev nD → PrngReg) (K : Dev nD × CK → ℕ) (c : Dev nD) : sProp 𝕄 :=
  iprop(records m ρ K ∗ dutyTok ER (barCell (prv c)) 0 true ∗ dutyTok ER (barCell (nxt c)) 0 false
    ∗ cred (tallyAt (barCell c) () 2) ∗ atPos ER (barCell c) 0 ∅ 0
    ∗ bigSep (Finset.Ico 0 24) (sendRight c) ∗ bigSep (Finset.Ico 0 24) (coming c))

/-- The device's own buffers at the entry: every slot, the staged rows of `x`, the result's buffer at `f`, what it owes. -/
def buffers (m : (ℓ : Loc nD τ sig) → Buf (Elt F) ℓ) (ρ : Dev nD → PrngReg) (f : (cc0_stg1_0 : Ref sig .tc).ty.Contents (Elt F)) (c : Dev nD) : sProp 𝕄 :=
  iprop((∃ W, owes (c : Thread nD τ) (O₀ c) W) ∗ bigSep (Finset.Ico 0 2) (dyFree m c) ∗ ((xM.view.loc (c : Thread nD τ)) ↦{fullShare} xstg m ρ c)
    ∗ Sout m ρ c f 0 ∗ bigSep (Finset.Ico 0 8) (fun k => slotAny c (sbS k)) ∗ bigSep (Finset.Ico 0 24) (fun k => slotAny c (rbS k)))

variable {m : (ℓ : Loc nD τ sig) → Buf (Elt F) ℓ} {ρ : Dev nD → PrngReg} {K : Dev nD × CK → ℕ}
variable {f : (cc0_stg1_0 : Ref sig .tc).ty.Contents (Elt F)} {c : Dev nD}

omit [FloatOps F] in
/-- The slots lent to a device and its send rights are all that its transfers need. -/
theorem toSend_intro (c : Dev nD) : iprop((barPay (F := F) c false ∗ barPay c true) ∗ bigSep (Finset.Ico 0 24) (sendRight c))
    ⊢ bigSep (Finset.Ico 0 24) (toSend c) := by
  rw [show (toSend (F := F) c) = fun k => iprop(slotAny (peer c k) (rbS k) ∗ sendRight c k) from rfl, bigSep_sep',
    halves (fun k => slotAny (F := F) (peer c k) (rbS k))]
  unfold barPay
  iintro ⟨⟨H1, H2⟩, H3⟩
  isplitr [H3]
  · isplitl [H2]; · iexact H2
    iexact H1
  iexact H3

/-- Both signals and the wait. -/
theorem step_barrier {α : Type} {Q : α → sProp 𝕄} {n n' : Dev nD} {kk : PUnit → Prog (TpuEff nD τ sig (Elt F) Λ₀ .tc) α}
    (hn : n = prv c) (hn' : n' = nxt c)
    (H : St m ρ K f c 0 0 0 0 0 0 0 ⊢ WP c (kk ⟨⟩) Q) :
    iprop(rights m ρ K c ∗ buffers m ρ f c)
      ⊢ WP c (semSignalWord n barS 1#32 >>= fun _ => semSignalWord n' barS 1#32 >>= fun _ => semWaitWord barS 2#32 >>= kk) Q := by
  subst hn hn'
  unfold WP at H ⊢
  unfold rights buffers
  rw [lend]
  simp only [semSignalWord, semWaitWord, Prog.bind_op, Prog.bind_ret]
  iintro ⟨⟨#HR, HtP, HtN, Hc, Hat, Hsr, Hcm⟩, ⟨%W, HO⟩, Hdy, Hx, Ho, Hsb, Hrb⟩
  icases Hrb with ⟨HrP, HrN⟩
  ihave #HIP := (records_inv m ρ K (prv c, .inl ())) $$ HR
  ihave #HIN := (records_inv m ρ K (nxt c, .inl ())) $$ HR
  ihave #HI := (records_inv m ρ K (c, .inl ())) $$ HR
  ihave #HrchP := (records_reached m ρ K (prv c, .inl ())) $$ HR
  ihave #HrchN := (records_reached m ρ K (nxt c, .inl ())) $$ HR
  ihave #Hlev := (records_lev m ρ K) $$ HR
  unfold O₀
  iapply (Rounds.wp_signal 𝒱₀ ER (ringRd m ρ) (c : Thread nD τ) none (dst := (prv c : Thread nD τ)) (κ := K (prv c, .inl ()))
      (d := true) (by rw [duties_bar]; exact Finset.mem_univ _) ((amount_bar m ρ (prv c) true).trans (by decide)) () (O₁ c) rfl)
    $$ [HO HtP HrP]
  · isplitr; · iexact HIP
    isplitl [HO]; · iexact HO
    isplitl [HtP]; · iexact HtP
    isplitl [HrP]; · rw [payload_bar]; iexact HrP
    iexact HrchP
  iintro HO
  unfold O₁
  iapply (Rounds.wp_signal 𝒱₀ ER (ringRd m ρ) (c : Thread nD τ) none (dst := (nxt c : Thread nD τ)) (κ := K (nxt c, .inl ()))
      (d := false) (by rw [duties_bar]; exact Finset.mem_univ _) ((amount_bar m ρ (nxt c) false).trans (by decide)) () (owed c 0) rfl)
    $$ [HO HtN HrN]
  · isplitr; · iexact HIN
    isplitl [HO]; · iexact HO
    isplitl [HtN]; · iexact HtN
    isplitl [HrN]; · rw [payload_bar]; iexact HrN
    iexact HrchN
  iintro HO
  iapply (Rounds.wp_wait_rest_token 𝒱₀ ER (ringRd m ρ) (c : Thread nD τ) none (κ := K (c, .inl ()))
      (wpE_semWait_eq 𝒱₀ (c : Thread nD τ) none Set.univ) (Set.mem_univ _) () (O := owed c 0) (W := W) (R := 0) (m := 0) (T := ∅)
      (by rw [expect_bar]; decide)) $$ [Hc HO Hat]
  · isplitr; · iexact HI
    isplitl [Hc]; · iexact Hc
    isplitl [HO]; · iexact HO
    isplitr; · iapply (mayWait_owed c 0 (.reg barS) (fun _ => by rw [lv_bar]; decide)); iexact Hlev
    iexact Hat
  iintro ⟨HO, Hat, -, Hpay⟩
  ihave Hp := (Entails.of_eq (rest_bar m ρ c)) $$ Hpay
  iapply H
  unfold St Sdy Sx Ssend Srecv
  simp only [Finset.Ico_self, bigSep_empty]
  isplitr; · iexact HR
  isplitl [Hdy]
  · isplitl [Hdy]; · iexact Hdy
    iempintro
  isplitl [Hx Hat]
  · isplitl [Hx]; · iexact Hx
    iexact Hat
  isplitl [Ho]; · iexact Ho
  isplitr [Hcm]
  · isplitl [HO]; · iexists _; iexact HO
    isplitl [Hp Hsr]
    · iapply (toSend_intro c)
      isplitl [Hp]; · iexact Hp
      iexact Hsr
    isplitl [Hsb]; · iexact Hsb
    isplitr; · iempintro
    isplitr <;> iempintro
  isplitl [Hcm]; · iexact Hcm
  iempintro

end Cert.KernelIdeal.RingProof
-- ==== Proof.KernelIdeal.Body.lean ====
/-
The body of the kernel on device `c`, walked effect by effect.
-/
module

public import proofs.«01_k».proof.Proof.KernelIdeal.Enter

@[expose] public section

set_option maxRecDepth 16384

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Dev nD × CK → ℕ}
variable {f : (cc0_stg1_0 : Ref sig .tc).ty.Contents (Elt F)} {c : Dev nD} {a w r st sw v o : ℕ}

/-- A program followed by a continuation: the program, to what the continuation needs. -/
theorem step_bind {α β : Type} {P : sProp 𝕄} {Q : α → sProp 𝕄} {p : Prog (TpuEff nD τ sig (Elt F) Λ₀ .tc) β}
    {kk : β → Prog (TpuEff nD τ sig (Elt F) Λ₀ .tc) α}
    (H : P ⊢ WP c p (fun b => WP c (kk b) Q)) : P ⊢ WP c (p >>= kk) Q := by
  unfold WP at *; rw [wp_bind]; exact H

/-- A program that has ended. -/
theorem step_pure {α : Type} {P : sProp 𝕄} {Q : α → sProp 𝕄} {x : α} (H : P ⊢ Q x) :
    P ⊢ WP c (pure x) Q := by
  unfold WP; rw [wp_pure]; exact H.trans fupd_intro

/-- A program that reads its device. -/
theorem step_device {α : Type} {P : sProp 𝕄} {Q : α → sProp 𝕄} {kk : Dev nD → Prog (TpuEff nD τ sig (Elt F) Λ₀ .tc) α}
    (H : P ⊢ WP c (kk c) Q) : P ⊢ WP c (Prog.lift .deviceId >>= kk) Q := by
  unfold WP at *; rw [Prog.bind_lift, wp_deviceId]; exact H

/-- A later block is the product plus what arrived eight tile steps before. -/
theorem sum_later (c : Dev nD) (k : ℕ) : sum m ρ c (k + 8) = next m ρ c (k + 8) (sum m ρ (src c k) k) := by
  rw [sum_next m ρ c (k + 8) (Nat.le_add_left 8 k), Nat.add_sub_cancel]
  rw [show src c (k + 8) = src c k by rw [← src_mod c (k + 8), Nat.add_mod_right, src_mod]]

/-- Step 0, the chunk on its way to the right: where its columns start. -/
theorem off_right0 (c : Dev nD) : k0_off1 c 0#32 = ![0, 512 * chunk c 0 0] :=
  (k0_off1_eq c 0).trans rfl

/-- Step 0, the chunk on its way to the left: where its columns start. -/
theorem off_left0 (c : Dev nD) : k0_off2 c 0#32 = ![0, 512 * chunk c 0 1] :=
  (k0_off2_eq c 0).trans rfl

/-- Step 1, the chunk on its way to the right: where its columns start. -/
theorem off_right1 (c : Dev nD) : k0_off1 c 1#32 = ![0, 512 * chunk c 1 0] :=
  (k0_off1_eq c 1).trans rfl

/-- Step 1, the chunk on its way to the left: where its columns start. -/
theorem off_left1 (c : Dev nD) : k0_off2 c 1#32 = ![0, 512 * chunk c 1 1] :=
  (k0_off2_eq c 1).trans rfl

/-- Step 2, the chunk on its way to the right: where its columns start. -/
theorem off_right2 (c : Dev nD) : k0_off1 c 2#32 = ![0, 512 * chunk c 2 0] :=
  (k0_off1_eq c 2).trans rfl

/-- Step 2, the chunk on its way to the left: where its columns start. -/
theorem off_left2 (c : Dev nD) : k0_off2 c 2#32 = ![0, 512 * chunk c 2 1] :=
  (k0_off2_eq c 2).trans rfl

/-- Step 3, the chunk of the device itself: where its columns start. -/
theorem off_own (c : Dev nD) (p : ℕ) : k0_off3 c = ![0, 512 * chunk c 3 p] := by
  refine (k0_off3_eq c).trans ?_
  have h : chunk c 3 p = c.val := by
    have := c.isLt
    unfold chunk nD at *
    split <;> omega
  rw [h]

set_option maxHeartbeats 4000000 in
/-- The body, from its entry to its end: every copy issued and waited for, every block sent and received, the result stored. -/
theorem body_run (f : (cc0_stg1_0 : Ref sig .tc).ty.Contents (Elt F)) :
    iprop(rights m ρ K c ∗ buffers m ρ f c) ⊢ WP c (cc0_body xM (Memref.isWhole_whole _) dyM (Memref.isWhole_whole _) oM (Memref.isWhole_whole _) dbM (Memref.isWhole_whole _)
      sbM (Memref.isWhole_whole _) rbM (Memref.isWhole_whole _) cc0_scratch3 cc0_scratch4 cc0_scratch5) (fun _ => St m ρ K f c 32 32 24 24 24 24 8) := by
  rw [cc0_body_eq_skeleton]; unfold cc0_body_skel
  refine step_bind ?_
  rw [k0_part52_eq_skeleton]; unfold k0_part52_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
  refine step_bind ?_
  unfold k0_part1_skel
  refine step_device ?_
  refine step_barrier (Fin.ext (k0_dev1_eq c)) (Fin.ext (k0_dev2_eq c)) ?_
  -- At each effect the lemma that fits it; between effects, the next part of the program is opened.
  repeat first
    | ((fail_if_success (with_reducible show _ ⊢ WP _ (Prog.lift _ >>= _) _)); first
        | ((with_reducible refine step_pure ?_); try dsimp only)
        | with_reducible refine step_bind ?_
        | unfold k0_part2_skel | unfold k0_part3_skel | unfold k0_part4_skel | unfold k0_part5_skel
        | unfold k0_part6_skel | unfold k0_part7_skel | unfold k0_part8_skel | unfold k0_part9_skel
        | unfold k0_part10_skel | unfold k0_part11_skel | unfold k0_part12_skel | unfold k0_part13_skel
        | unfold k0_part14_skel | unfold k0_part15_skel | unfold k0_part16_skel | unfold k0_part17_skel
        | unfold k0_part18_skel | unfold k0_part19_skel | unfold k0_part20_skel | unfold k0_part21_skel
        | unfold k0_part22_skel | unfold k0_part23_skel | unfold k0_part24_skel | unfold k0_part25_skel
        | unfold k0_part26_skel | unfold k0_part27_skel | unfold k0_part28_skel | unfold k0_part29_skel
        | unfold k0_part30_skel | unfold k0_part31_skel | unfold k0_part32_skel | unfold k0_part33_skel
        | unfold k0_part34_skel | unfold k0_part35_skel | unfold k0_part36_skel | unfold k0_part37_skel
        | unfold k0_part38_skel | unfold k0_part39_skel | unfold k0_part40_skel | unfold k0_part41_skel
        | unfold k0_part42_skel | unfold k0_part43_skel | unfold k0_part44_skel | unfold k0_part45_skel
        | unfold k0_part46_skel | unfold k0_part47_skel | unfold k0_part48_skel | unfold k0_part49_skel
        | unfold k0_part50_skel | unfold k0_part51_skel)
    | (refine step_dyStart ?_ ?_ ?_; (iterate 2 (on_goal 1 => decide)))
    | (refine step_dyWait ?_ ?_ ?_; (iterate 2 (on_goal 1 => decide)))
    | ((with_reducible show _ ⊢ WP _ (Prog.lift (.load dbM _ _) >>= _) _); refine step_dyLoad ?_ ?_; on_goal 1 => decide)
    | (refine step_slotLoad ?_ fun _ => ?_; on_goal 1 => decide)
    | (refine step_store ?_ ?_ ?_ ?_; (iterate 2 (on_goal 1 => decide)); on_goal 1 => first
        | (rw [sum_first _ _ _ _ (by decide)]; rfl)
        | (rw [sum_later]; rfl))
    | (refine step_send ?_ ?_ ?_ ?_ ?_; (iterate 3 (on_goal 2 => decide)); on_goal 1 => (
        refine Fin.ext ?_; dsimp only
        first
          | rw [k0_dev3_eq] | rw [k0_dev4_eq] | rw [k0_dev5_eq] | rw [k0_dev6_eq] | rw [k0_dev7_eq] | rw [k0_dev8_eq]
          | rw [k0_dev9_eq] | rw [k0_dev10_eq] | rw [k0_dev11_eq] | rw [k0_dev12_eq] | rw [k0_dev13_eq] | rw [k0_dev14_eq]
          | rw [k0_dev15_eq] | rw [k0_dev16_eq] | rw [k0_dev17_eq] | rw [k0_dev18_eq] | rw [k0_dev19_eq] | rw [k0_dev20_eq]
          | rw [k0_dev21_eq] | rw [k0_dev22_eq] | rw [k0_dev23_eq] | rw [k0_dev24_eq] | rw [k0_dev25_eq] | rw [k0_dev26_eq]
        rfl))
    | (refine step_recvWait ?_ ?_ ?_; (iterate 2 (on_goal 1 => decide)))
    | (refine step_sendWait ?_ ?_ ?_ ?_; (iterate 3 (on_goal 1 => decide)))
    | ((with_reducible show _ ⊢ WP _ (Prog.lift (.load rbM _ _) >>= _) _); refine step_recvLoad ?_)
    | refine step_outLoad fun _ => ?_
    | (refine step_outStore ?_ ?_; on_goal 1 => (rw [sum_later]; rfl))
    | ((with_reducible show _ ⊢ WP _ (Prog.lift (.load xM _ _) >>= _) _); refine step_xLoad 0 0 ?_ ?_; on_goal 1 => with_reducible exact off_right0 _)
    | ((with_reducible show _ ⊢ WP _ (Prog.lift (.load xM _ _) >>= _) _); refine step_xLoad 0 1 ?_ ?_; on_goal 1 => with_reducible exact off_left0 _)
    | ((with_reducible show _ ⊢ WP _ (Prog.lift (.load xM _ _) >>= _) _); refine step_xLoad 1 0 ?_ ?_; on_goal 1 => with_reducible exact off_right1 _)
    | ((with_reducible show _ ⊢ WP _ (Prog.lift (.load xM _ _) >>= _) _); refine step_xLoad 1 1 ?_ ?_; on_goal 1 => with_reducible exact off_left1 _)
    | ((with_reducible show _ ⊢ WP _ (Prog.lift (.load xM _ _) >>= _) _); refine step_xLoad 2 0 ?_ ?_; on_goal 1 => with_reducible exact off_right2 _)
    | ((with_reducible show _ ⊢ WP _ (Prog.lift (.load xM _ _) >>= _) _); refine step_xLoad 2 1 ?_ ?_; on_goal 1 => with_reducible exact off_left2 _)
    | ((with_reducible show _ ⊢ WP _ (Prog.lift (.load xM _ _) >>= _) _); refine step_xLoad 3 0 ?_ ?_; on_goal 1 => with_reducible exact off_own _ _)
    | ((with_reducible show _ ⊢ WP _ (Prog.lift (.load xM _ _) >>= _) _); refine step_xLoad 3 1 ?_ ?_; on_goal 1 => with_reducible exact off_own _ _)
  exact BI.Entails.refl _

end Cert.KernelIdeal.RingProof
-- ==== Proof.KernelIdeal.Slots.lean ====
/-
A scratch buffer held whole is its slots, each held on its own.
-/
module

public import proofs.«01_k».proof.Proof.KernelIdeal.Enter

@[expose] public section

set_option maxRecDepth 16384

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Separating conjunctions over intervals -/

omit [FloatOps F] in
/-- An interval shifted to start at zero. -/
theorem bigSep_shift (a n : ℕ) (Φ : ℕ → sProp 𝕄) : bigSep (Finset.Ico a (n + a)) Φ = bigSep (Finset.Ico 0 n) fun i => Φ (i + a) := by
  have e : Finset.Ico a (n + a) = (Finset.Ico 0 n).map (addRightEmbedding a) := by
    ext x
    rw [Finset.mem_map]
    constructor
    · intro h
      rw [Finset.mem_Ico] at h
      exact ⟨x - a, Finset.mem_Ico.mpr (by omega), Nat.sub_add_cancel h.1⟩
    · rintro ⟨y, hy, rfl⟩
      rw [Finset.mem_Ico] at hy
      exact Finset.mem_Ico.mpr (show a ≤ y + a ∧ y + a < n + a by omega)
  rw [e, BI.bigSep_map]; rfl

/-! ## Any buffer, cut by a number read off an element's index -/

section Cut
variable {ℓ : Loc nD τ sig} (n : ℕ) (S : ℕ → Finset (Idx ℓ)) (num : Idx ℓ → ℕ) (hlt : ∀ i, num i < n) (hS : ∀ k, k < n → ∀ i, i ∈ S k ↔ num i = k)

omit [FloatOps F] in
include hS in
theorem cut_disjoint (b b' : Fin n) (h : b ≠ b') : Disjoint (S b.val) (S b'.val) := by
  rw [Finset.disjoint_left]
  intro i hi hi'
  exact h (Fin.ext (((hS _ b.isLt i).mp hi).symm.trans ((hS _ b'.isLt i).mp hi')))

omit [FloatOps F] in
include hlt hS in
theorem cut_cover : (Finset.univ.biUnion fun b : Fin n => S b.val) = Finset.univ := by
  ext i
  simp only [Finset.mem_biUnion, Finset.mem_univ, true_and, iff_true]
  exact ⟨⟨num i, hlt i⟩, (hS _ (hlt i) i).mpr rfl⟩

omit [FloatOps F] in
include hlt hS in
/-- The whole buffer gives every piece; -/
theorem cut (f : Buf (Elt F) ℓ) : (ℓ ↦{fullShare} f : sProp 𝕄) ⊢ bigSep (Finset.Ico 0 n) fun k => iprop(∃ g : Buf (Elt F) ℓ, ℓ ↦[S k]{fullShare} g) := by
  rw [Ring.pointsTo_blocks (fun b : Fin n => S b.val) (cut_disjoint n S num hS) (cut_cover n S num hlt hS) f,
    Ring.bigSep_fin_eq_range n _ (fun k => (ℓ ↦[S k]{fullShare} f : sProp 𝕄)) fun _ _ => rfl, Finset.range_eq_Ico]
  exact bigSep_mono fun k _ => show iprop(ℓ ↦[S k]{fullShare} f) ⊢ (iprop(∃ g : Buf (Elt F) ℓ, ℓ ↦[S k]{fullShare} g) : sProp 𝕄) by
    iintro H; iexists f; iexact H

omit [FloatOps F] in
include hlt hS in
/-- and the pieces give the whole. -/
theorem uncut (f₀ : Buf (Elt F) ℓ) : (bigSep (Finset.Ico 0 n) fun k => iprop(∃ g : Buf (Elt F) ℓ, ℓ ↦[S k]{fullShare} g)) ⊢ (iprop(∃ g, ℓ ↦{fullShare} g) : sProp 𝕄) := by
  rw [← Finset.range_eq_Ico, ← Ring.bigSep_fin_eq_range n (fun b : Fin n => iprop(∃ g : Buf (Elt F) ℓ, ℓ ↦[S b.val]{fullShare} g))
    (fun k => iprop(∃ g : Buf (Elt F) ℓ, ℓ ↦[S k]{fullShare} g)) fun _ _ => rfl]
  exact Ring.pointsTo_blocks_join_exists (fun b : Fin n => S b.val) (cut_disjoint n S num hS) (cut_cover n S num hlt hS) f₀

end Cut

/-! ## Which elements a slot has -/

omit [FloatOps F] in
theorem mem_dbS (k : ℕ) (i : S2x2048x1024.Idx) : i ∈ (dbS k).view.set ↔ (i 0).val = k % 2 := by
  rw [slot_set, show (dbM.access (dbR k)).set = (dbR k).set from View.set_slice_whole _ _, Rect.mem_set_unit, Fin.forall_fin_succ, Fin.forall_fin_two]
  have h1 := (i 1).isLt
  have h2 := (i 2).isLt
  change (k % 2 ≤ (i 0).val ∧ (i 0).val < k % 2 + 1) ∧ (0 ≤ (i 1).val ∧ (i 1).val < 0 + 2048) ∧ (0 ≤ (i 2).val ∧ (i 2).val < 0 + 1024) ↔ _
  change (i 1).val < 2048 at h1
  change (i 2).val < 1024 at h2
  omega

omit [FloatOps F] in
theorem mem_sbS (k : ℕ) (i : S8x512x1024.Idx) : i ∈ (sbS k).view.set ↔ (i 0).val = k % 8 := by
  rw [slot_set, show (sbM.access (sbR k)).set = (sbR k).set from View.set_slice_whole _ _, Rect.mem_set_unit, Fin.forall_fin_succ, Fin.forall_fin_two]
  have h1 := (i 1).isLt
  have h2 := (i 2).isLt
  change (k % 8 ≤ (i 0).val ∧ (i 0).val < k % 8 + 1) ∧ (0 ≤ (i 1).val ∧ (i 1).val < 0 + 512) ∧ (0 ≤ (i 2).val ∧ (i 2).val < 0 + 1024) ↔ _
  change (i 1).val < 512 at h1
  change (i 2).val < 1024 at h2
  omega

omit [FloatOps F] in
theorem mem_rbS (k : ℕ) (i : S3x8x512x1024.Idx) : i ∈ (rbS k).view.set ↔ (i 0).val = k / 8 % 3 ∧ (i 1).val = k % 8 := by
  rw [slot_set, show (rbM.access (rbR k)).set = (rbR k).set from View.set_slice_whole _ _, Rect.mem_set_unit, Fin.forall_fin_succ, Fin.forall_fin_succ, Fin.forall_fin_two]
  have h1 := (i 2).isLt
  have h2 := (i 3).isLt
  change (k / 8 % 3 ≤ (i 0).val ∧ (i 0).val < k / 8 % 3 + 1) ∧ (k % 8 ≤ (i 1).val ∧ (i 1).val < k % 8 + 1) ∧ (0 ≤ (i 2).val ∧ (i 2).val < 0 + 512) ∧ (0 ≤ (i 3).val ∧ (i 3).val < 0 + 1024) ↔ _
  change (i 2).val < 512 at h1
  change (i 3).val < 1024 at h2
  omega

/-! ## The three scratch buffers -/

variable (c : Dev nD)

abbrev dbL : Loc nD τ sig := (c : Thread nD τ).loc cc0_scratch0
abbrev sbL : Loc nD τ sig := (c : Thread nD τ).loc cc0_scratch1
abbrev rbL : Loc nD τ sig := (c : Thread nD τ).loc cc0_scratch2

def dbNum (i : S2x2048x1024.Idx) : ℕ := (i 0).val
def sbNum (i : S8x512x1024.Idx) : ℕ := (i 0).val
def rbNum (i : S3x8x512x1024.Idx) : ℕ := 8 * (i 0).val + (i 1).val

omit [FloatOps F] in
theorem dbNum_lt (i : S2x2048x1024.Idx) : dbNum i < 2 := (i 0).isLt
omit [FloatOps F] in
theorem sbNum_lt (i : S8x512x1024.Idx) : sbNum i < 8 := (i 0).isLt
omit [FloatOps F] in
theorem rbNum_lt (i : S3x8x512x1024.Idx) : rbNum i < 24 := by
  have h0 : (i 0).val < 3 := (i 0).isLt
  have h1 : (i 1).val < 8 := (i 1).isLt
  unfold rbNum; omega

omit [FloatOps F] in
theorem dbNum_iff (a k : ℕ) (h : (k + a) % 2 = k) (i : S2x2048x1024.Idx) : i ∈ (dbS (k + a)).view.set ↔ dbNum i = k := by
  rw [mem_dbS, h]; rfl
omit [FloatOps F] in
theorem sbNum_iff (a k : ℕ) (h : (k + a) % 8 = k) (i : S8x512x1024.Idx) : i ∈ (sbS (k + a)).view.set ↔ sbNum i = k := by
  rw [mem_sbS, h]; rfl
omit [FloatOps F] in
theorem rbNum_iff (k : ℕ) (h : k < 24) (i : S3x8x512x1024.Idx) : i ∈ (rbS k).view.set ↔ rbNum i = k := by
  rw [mem_rbS]
  have h0 : (i 0).val < 3 := (i 0).isLt
  have h1 : (i 1).val < 8 := (i 1).isLt
  unfold rbNum; omega

/-- `n` pieces of the buffer at `ℓ`, each at any contents. -/
def pieces (ℓ : Loc nD τ sig) (n : ℕ) (S : ℕ → Finset (Idx ℓ)) : sProp 𝕄 :=
  bigSep (Finset.Ico 0 n) fun k => iprop(∃ g : Buf (Elt F) ℓ, ℓ ↦[S k]{fullShare} g)

omit [FloatOps F] in
theorem slotAny_send (k : ℕ) : slotAny (F := F) c (sbS k) = iprop(∃ g : Buf (Elt F) (sbL c), (sbL c) ↦[(sbS k).view.set]{fullShare} g) := rfl
omit [FloatOps F] in
theorem slotAny_recv (k : ℕ) : slotAny (F := F) c (rbS k) = iprop(∃ g : Buf (Elt F) (rbL c), (rbL c) ↦[(rbS k).view.set]{fullShare} g) := rfl

omit [FloatOps F] in
theorem send_pieces (a : ℕ) : bigSep (Finset.Ico a (8 + a)) (fun k => slotAny (F := F) c (sbS k)) = pieces (sbL c) 8 fun k => (sbS (k + a)).view.set := by
  rw [bigSep_shift a 8]; rfl
omit [FloatOps F] in
theorem recv_pieces : bigSep (Finset.Ico 0 24) (fun k => slotAny (F := F) c (rbS k)) = pieces (rbL c) 24 fun k => (rbS k).view.set := rfl

omit [FloatOps F] in
/-- The send buffer is eight consecutive slots; -/
theorem send_cut_at (a : ℕ) (h : ∀ k, k < 8 → (k + a) % 8 = k) (f : Buf (Elt F) (sbL c)) :
    ((sbL c) ↦{fullShare} f : sProp 𝕄) ⊢ bigSep (Finset.Ico a (8 + a)) fun k => slotAny c (sbS k) := by
  rw [send_pieces c a]
  exact cut (ℓ := sbL c) 8 (fun k => (sbS (k + a)).view.set) sbNum sbNum_lt (fun k hk => sbNum_iff a k (h k hk)) f

omit [FloatOps F] in
/-- and back. -/
theorem send_uncut_at (a : ℕ) (h : ∀ k, k < 8 → (k + a) % 8 = k) (f₀ : Buf (Elt F) (sbL c)) :
    bigSep (Finset.Ico a (8 + a)) (fun k => slotAny c (sbS k)) ⊢ (iprop(∃ g, (sbL c) ↦{fullShare} g) : sProp 𝕄) := by
  rw [send_pieces c a]
  exact uncut (ℓ := sbL c) 8 (fun k => (sbS (k + a)).view.set) sbNum sbNum_lt (fun k hk => sbNum_iff a k (h k hk)) f₀

omit [FloatOps F] in
/-- The send buffer is its eight slots; -/
theorem send_cut (f : Buf (Elt F) (sbL c)) : ((sbL c) ↦{fullShare} f : sProp 𝕄) ⊢ bigSep (Finset.Ico 0 8) fun k => slotAny c (sbS k) :=
  send_cut_at c 0 (fun _ h => Nat.mod_eq_of_lt h) f

omit [FloatOps F] in
/-- the slots are the buffer again. -/
theorem send_uncut (f₀ : Buf (Elt F) (sbL c)) :
    bigSep (Finset.Ico 24 32) (fun k => slotAny c (sbS k)) ⊢ (iprop(∃ g, (sbL c) ↦{fullShare} g) : sProp 𝕄) :=
  send_uncut_at c 24 (fun _ _ => by omega) f₀

omit [FloatOps F] in
/-- The receive buffer is its twenty-four slots; -/
theorem recv_cut (f : Buf (Elt F) (rbL c)) : ((rbL c) ↦{fullShare} f : sProp 𝕄) ⊢ bigSep (Finset.Ico 0 24) fun k => slotAny c (rbS k) := by
  rw [recv_pieces c]
  exact cut (ℓ := rbL c) 24 (fun k => (rbS k).view.set) rbNum rbNum_lt rbNum_iff f

omit [FloatOps F] in
/-- and back. -/
theorem recv_uncut (f₀ : Buf (Elt F) (rbL c)) :
    bigSep (Finset.Ico 0 24) (fun k => slotAny c (rbS k)) ⊢ (iprop(∃ g, (rbL c) ↦{fullShare} g) : sProp 𝕄) := by
  rw [recv_pieces c]
  exact uncut (ℓ := rbL c) 24 (fun k => (rbS k).view.set) rbNum rbNum_lt rbNum_iff f₀

omit [FloatOps F] in
theorem bigSep_two (Φ : ℕ → sProp 𝕄) (a : ℕ) : bigSep (Finset.Ico a (a + 2)) Φ = iprop(Φ a ∗ Φ (a + 1)) := by
  rw [bigSep_Ico_succ_bot (by omega), show Finset.Ico (a + 1) (a + 2) = {a + 1} by ext x; rw [Finset.mem_Ico, Finset.mem_singleton]; omega,
    bigSep_singleton]

/-- A slot of the staging buffer of `dy`, at any contents. -/
def dySome (k : ℕ) : sProp 𝕄 := iprop(∃ g : Buf (Elt F) (dbL c), (dbL c) ↦[(dbS k).view.set]{fullShare} g)

omit [FloatOps F] in
theorem dy_pieces (a : ℕ) : iprop(dySome c a ∗ dySome c (a + 1)) = pieces (F := F) (dbL c) 2 fun k => (dbS (k + a)).view.set := by
  rw [← bigSep_two (dySome (F := F) c) a, show a + 2 = 2 + a from Nat.add_comm a 2, bigSep_shift a 2]; rfl

omit [FloatOps F] in
/-- The staging buffer of `dy` is two consecutive slots; -/
theorem dy_cut (a : ℕ) (h : ∀ k, k < 2 → (k + a) % 2 = k) (f : Buf (Elt F) (dbL c)) :
    ((dbL c) ↦{fullShare} f : sProp 𝕄) ⊢ iprop(dySome c a ∗ dySome c (a + 1)) := by
  rw [dy_pieces]
  exact cut (ℓ := dbL c) 2 (fun k => (dbS (k + a)).view.set) dbNum dbNum_lt (fun k hk => dbNum_iff a k (h k hk)) f

omit [FloatOps F] in
/-- and back. -/
theorem dy_uncut (a : ℕ) (h : ∀ k, k < 2 → (k + a) % 2 = k) (f₀ : Buf (Elt F) (dbL c)) :
    iprop(dySome c a ∗ dySome c (a + 1)) ⊢ (iprop(∃ g, (dbL c) ↦{fullShare} g) : sProp 𝕄) := by
  rw [dy_pieces]
  exact uncut (ℓ := dbL c) 2 (fun k => (dbS (k + a)).view.set) dbNum dbNum_lt (fun k hk => dbNum_iff a k (h k hk)) f₀

variable (m : (ℓ : Loc nD τ sig) → Buf (Elt F) ℓ)

/-- The device's rows of `dy`, unchanged. -/
def dyHeld : sProp 𝕄 := iprop(((c : Thread nD τ).loc main_arg1) ↦{fullShare} m ((c : Thread nD τ).loc main_arg1))

omit [FloatOps F] in
/-- The rows of `dy` are held half by the copies of even tile steps, half by the others. -/
theorem dyHeld_eq : dyHeld c m ⊣⊢ iprop((((c : Thread nD τ).loc main_arg1) ↦{PosShare.left fullShare} m ((c : Thread nD τ).loc main_arg1))
    ∗ ((c : Thread nD τ).loc main_arg1) ↦{PosShare.right fullShare} m ((c : Thread nD τ).loc main_arg1)) :=
  pointsTo_share (PosShare.mem_left_op_right fullShare)

/-- Both copies of `dy` ready to be issued, from the staging buffer, the rows of `dy` and the two semaphores; -/
theorem dyFree_intro (f : Buf (Elt F) (dbL c)) :
    iprop(((dbL c) ↦{fullShare} f) ∗ dyHeld c m ∗ semVal ((c : Thread nD τ), SemLoc.dma (dySem 0)) 0 ∗ semVal ((c : Thread nD τ), SemLoc.dma (dySem 1)) 0)
      ⊢ bigSep (Finset.Ico 0 2) (dyFree m c) := by
  rw [bigSep_two _ 0]
  iintro ⟨Hs, Hd, Hz0, Hz1⟩
  ihave Hs := (dy_cut c 0 (fun _ h => Nat.mod_eq_of_lt h) f) $$ Hs
  ihave Hd := (dyHeld_eq c m).1 $$ Hd
  icases Hd with ⟨HL, HR⟩
  unfold dySome
  icases Hs with ⟨⟨%g0, H0⟩, ⟨%g1, H1⟩⟩
  unfold dyFree dySlot
  isplitl [H0 HL Hz0]
  · isplitl [H0]
    · iexists g0; isplitl [H0]; · iexact H0
      ipureintro; intro h; exact absurd h (by decide)
    isplitl [HL]; · iexact HL
    iexact Hz0
  isplitl [H1]
  · iexists g1; isplitl [H1]; · iexact H1
    ipureintro; intro h; exact absurd h (by decide)
  isplitl [HR]; · iexact HR
  iexact Hz1

/-- and back, after the last tile step. -/
theorem dyFree_elim (f₀ : Buf (Elt F) (dbL c)) :
    bigSep (Finset.Ico 32 34) (dyFree m c) ⊢ iprop((∃ g, (dbL c) ↦{fullShare} g) ∗ dyHeld c m
      ∗ semVal ((c : Thread nD τ), SemLoc.dma (dySem 0)) 0 ∗ semVal ((c : Thread nD τ), SemLoc.dma (dySem 1)) 0) := by
  rw [bigSep_two _ 32]
  unfold dyFree dySlot
  rw [show dySem 32 = dySem 0 from dySem_mod 32, show dySem (32 + 1) = dySem 1 from dySem_mod 33,
    show dyQ 32 = PosShare.left fullShare from rfl, show dyQ (32 + 1) = PosShare.right fullShare from rfl]
  iintro ⟨⟨⟨%g0, H0, -⟩, HL, Hz0⟩, ⟨%g1, H1, -⟩, HR, Hz1⟩
  isplitl [H0 H1]
  · iapply (dy_uncut c 32 (fun _ _ => by omega) f₀)
    unfold dySome
    isplitl [H0]; · iexists g0; iexact H0
    iexists g1; iexact H1
  isplitl [HL HR]
  · iapply (dyHeld_eq c m).2
    isplitl [HL]; · iexact HL
    iexact HR
  isplitl [Hz0]; · iexact Hz0
  iexact Hz1

/-! ## The result -/

variable (ρ : Dev nD → PrngReg)

/-- The result of device `c`: column tile `t` is the block finished at tile step `24 + t`. -/
def res : (cc0_stg1_0 : Ref sig .tc).ty.Contents (Elt F) := fun i : S512x8192.Idx =>
  sum m ρ c (24 + (i 1).val / 1024) (fun a : Fin 2 => match a with
    | ⟨0, _⟩ => ⟨(i 0).val, (i 0).isLt⟩
    | ⟨1, _⟩ => ⟨(i 1).val % 1024, Nat.mod_lt _ (by decide)⟩ : S512x1024.Idx)

/-- An entry of the result buffer after `o` tiles are stored is the result's if its tile is stored, else what it was. -/
theorem outW_apply (f : (cc0_stg1_0 : Ref sig .tc).ty.Contents (Elt F)) (o : ℕ) (ho : o ≤ 8) (i : S512x8192.Idx) :
    outW m ρ c f o i = if (i 1).val / 1024 < o then res c m ρ i else f i := by
  induction o with
  | zero => rw [if_neg (Nat.not_lt_zero _)]; rfl
  | succ o ih =>
    have hm : (24 + o) % 8 = o := by omega
    have h0 : (i 0).val < 512 := (i 0).isLt
    show (oM.access (oR (24 + o))).write (Elt F) (outW m ρ c f o) (sum m ρ c (24 + o)) Finset.univ i = _
    by_cases h : (i 1).val / 1024 = o
    · rw [if_pos (by omega)]
      let x : S512x1024.Idx := fun a : Fin 2 => match a with
        | ⟨0, _⟩ => ⟨(i 0).val, (i 0).isLt⟩
        | ⟨1, _⟩ => ⟨(i 1).val % 1024, Nat.mod_lt _ (by decide)⟩
      have e : (oM.access (oR (24 + o))).emb x = i := by
        refine funext (Fin.forall_fin_two.mpr ⟨?_, ?_⟩)
        · exact Fin.ext (show 0 + 1 * (i 0).val = (i 0).val by omega)
        · exact Fin.ext (show 1024 * ((24 + o) % 8) + 1 * ((i 1).val % 1024) = (i 1).val by rw [hm]; omega)
      have hw := View.write_emb_of_mem (v := oM.access (oR (24 + o))) (Val := Elt F) (outW m ρ c f o) (sum m ρ c (24 + o)) (Finset.mem_univ x)
      rw [e] at hw
      rw [hw]
      show sum m ρ c (24 + o) x = sum m ρ c (24 + (i 1).val / 1024) x
      rw [h]
    · rw [View.write_of_not_mem, ih (by omega)]
      · by_cases h' : (i 1).val / 1024 < o
        · rw [if_pos h', if_pos (by omega)]
        · rw [if_neg h', if_neg (by omega)]
      · intro hi
        rw [show (oM.access (oR (24 + o))).setOn Finset.univ = (oR (24 + o)).set from View.set_slice_whole _ _, Rect.mem_set_unit] at hi
        have hi1 : 1024 * ((24 + o) % 8) ≤ (i 1).val ∧ (i 1).val < 1024 * ((24 + o) % 8) + 1024 := hi 1
        rw [hm] at hi1
        omega

/-- After all eight tiles are stored, nothing is left of what the buffer held at first. -/
theorem outW_res (f : (cc0_stg1_0 : Ref sig .tc).ty.Contents (Elt F)) : outW m ρ c f 8 = res c m ρ := by
  funext i
  rw [outW_apply c m ρ f 8 le_rfl i, if_pos]
  have h : ((i : S512x8192.Idx) 1).val < 8192 := (i 1).isLt
  omega

end Cert.KernelIdeal.RingProof
-- ==== Proof.KernelIdeal.Ghost.lean ====
/-
The protocol's state at launch: minted for all devices at once, its cells allocated, its tokens dealt to the devices that
spend them.
-/
module

public import proofs.«01_k».proof.Proof.KernelIdeal.Slots

@[expose] public section

set_option maxRecDepth 16384

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The kernel's own semaphores: two for the copies of `dy`, twenty-four for departures, twenty-four for arrivals. -/
abbrev OK : Type := Fin 2 ⊕ (Fin 24 ⊕ Fin 24)
/-- The semaphores the kernel declares. -/
abbrev osem : OK → SemLoc sig
  | .inl k => .dma (dySem k.val)
  | .inr (.inl k) => .dma (sendSem k.val)
  | .inr (.inr k) => .dma (recvSem k.val)

/-- A semaphore's number. -/
def semNum : SemLoc sig → ℕ
  | .reg s => 1000 + s.val
  | .dma s => s.val

omit [FloatOps F] in
theorem semNum_dy (k : Fin 2) : semNum (.dma (dySem k.val)) = 2 + k.val := dySem_val k
omit [FloatOps F] in
theorem semNum_send (k : Fin 24) : semNum (.dma (sendSem k.val)) = 4 + k.val := sendSem_val k
omit [FloatOps F] in
theorem semNum_recv (k : Fin 24) : semNum (.dma (recvSem k.val)) = 28 + k.val := recvSem_val k

omit [FloatOps F] in
/-- They are distinct, -/
theorem osem_injective : Function.Injective osem := by
  rintro (k | k | k) (k' | k' | k') h <;> replace h := congrArg semNum h <;>
    simp only [semNum_dy, semNum_send, semNum_recv] at h <;> first
    | (have e : k = k' := Fin.ext (by omega)); subst e; rfl
    | omega

/-- and none of them is a staging semaphore. -/
theorem ownSemFacts : Pipeline.OwnSemFacts cfg0.spec osem where
  isScoped := by decide +kernel
  inj := osem_injective
  disj := by decide +kernel

omit [FloatOps F] in
theorem semNum_bar : 1000 ≤ semNum (.reg barS) := Nat.le_add_right _ _

omit [FloatOps F] in
/-- The cells of a device are distinct, -/
theorem csem_injective : Function.Injective csem := by
  have hb := semNum_bar
  have hN : ∀ k : CK, semNum (csem k) = match k with | .inl _ => semNum (.reg barS) | .inr (.inl k) => 4 + k.val | .inr (.inr k) => 28 + k.val := by
    rintro (_ | k | k)
    · rfl
    · exact semNum_send k
    · exact semNum_recv k
  rintro (⟨⟩ | k | k) (⟨⟩ | k' | k') h
  · rfl
  all_goals
    replace h := congrArg semNum h
    rw [hN, hN] at h
    dsimp only at h
    first
    | (have e : k = k' := Fin.ext (by omega)); subst e; rfl
    | omega

/-- and so are the cells of all devices. -/
theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  subst h1 h2; rfl

/-- The duties: two of a barrier, one of a departure, one of an arrival. -/
abbrev TK : Type := Bool ⊕ (Fin 24 ⊕ Fin 24)
/-- The duty a token stands for. -/
abbrev tokOf : Dev nD × TK → GSem nD τ sig × ℕ × Bool
  | (c, .inl b) => (barCell c, 0, b)
  | (c, .inr k) => (kcell (c, .inr k), 0, false)

/-- Different tokens stand for different duties. -/
theorem tokOf_injective : Function.Injective tokOf := by
  rintro ⟨c, b | k⟩ ⟨c', b' | k'⟩ h
  · have h1 : c = c' := congrArg (fun x : GSem nD τ sig × ℕ × Bool => x.1.1.1) h
    have h2 : b = b' := congrArg (fun x : GSem nD τ sig × ℕ × Bool => x.2.2) h
    subst h1 h2; rfl
  · have h2 := kcell_injective (a₁ := (c, .inl ())) (a₂ := (c', .inr k')) (congrArg Prod.fst h)
    exact absurd (congrArg Prod.snd h2) (fun e => by cases e)
  · have h2 := kcell_injective (a₁ := (c, .inr k)) (a₂ := (c', .inl ())) (congrArg Prod.fst h)
    exact absurd (congrArg Prod.snd h2) (fun e => by cases e)
  · have h2 := kcell_injective (a₁ := (c, .inr k)) (a₂ := (c', .inr k')) (congrArg Prod.fst h)
    have h3 : c = c' := congrArg Prod.fst h2
    have h4 : k = k' := Sum.inr_injective (congrArg Prod.snd h2)
    subst h3 h4; rfl

/-- All cells of the protocol; -/
def allCells : Finset (GSem nD τ sig) := Finset.univ.map ⟨kcell, kcell_injective⟩
/-- all its duties. -/
def allToks : Finset (GSem nD τ sig × ℕ × Bool) := Finset.univ.map ⟨tokOf, tokOf_injective⟩

/-- The launch's ghost element: the pipeline's cells, the ring's cells and tokens, no counters. -/
def u₀ : UU := (initOf (Pipeline.cells cfgs cellOf_inj) (Pipeline.launchToks cfgs cellOf_inj), (initOf allCells allToks, 1))

/-! ## Families over a device's cells -/

omit [FloatOps F] in
/-- A family over `Fin n` is the same family over the numbers below `n`. -/
theorem fin_Ico (n : ℕ) (Φ : ℕ → sProp 𝕄) : bigSep Finset.univ (fun k : Fin n => Φ k.val) = bigSep (Finset.Ico 0 n) Φ := by
  rw [Ring.bigSep_fin_eq_range n _ Φ fun _ _ => rfl, Finset.range_eq_Ico]

omit [FloatOps F] in
/-- A family over a device's cells: the barrier's, the departures', the arrivals'. -/
theorem over_cells (c : Dev nD) (Φ : GSem nD τ sig → sProp 𝕄) : bigSep Finset.univ (fun k : CK => Φ (kcell (c, k)))
    = iprop(Φ (barCell c) ∗ bigSep (Finset.Ico 0 24) (fun k => Φ (sendCell c k)) ∗ bigSep (Finset.Ico 0 24) fun k => Φ (recvCell c k)) := by
  rw [BI.bigSep_univ_sum, BI.bigSep_univ_sum, ← fin_Ico 24 (fun k => Φ (sendCell c k)), ← fin_Ico 24 (fun k => Φ (recvCell c k)),
    Finset.univ_unique, bigSep_singleton]
  rfl

/-- The copies' two semaphores at zero. -/
def dyZero (c : Dev nD) : sProp 𝕄 := iprop(semVal ((c : Thread nD τ), SemLoc.dma (dySem 0)) 0 ∗ semVal ((c : Thread nD τ), SemLoc.dma (dySem 1)) 0)

omit [FloatOps F] in
/-- The kernel's own semaphores at zero, kind by kind; -/
theorem ownSems0_eq (c : Dev nD) : (Pipeline.ownSems0 (Ix := Unit) (Name := ℕ) (U := UU) (Lvl := ℕ) (Val := Elt F) (τ := τ) osem c : sProp 𝕄)
    = iprop(dyZero c ∗ bigSep (Finset.Ico 0 24) (fun k => semVal (sendCell c k) 0) ∗ bigSep (Finset.Ico 0 24) fun k => semVal (recvCell c k) 0) := by
  unfold Pipeline.ownSems0 dyZero
  rw [BI.bigSep_univ_sum, BI.bigSep_univ_sum, ← fin_Ico 24 (fun k => semVal (sendCell c k) 0), ← fin_Ico 24 (fun k => semVal (recvCell c k) 0),
    fin_Ico 2 (fun k => semVal ((c : Thread nD τ), SemLoc.dma (dySem k)) 0), bigSep_two _ 0]
  rfl

omit [FloatOps F] in
/-- the one semaphore that outlives the call is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## Minting -/

/-- The duty tokens of a device's own cells. -/
def toks (c : Dev nD) : sProp 𝕄 :=
  iprop((dutyTok ER (barCell c) 0 false ∗ dutyTok ER (barCell c) 0 true)
    ∗ bigSep Finset.univ (fun k : Fin 24 => dutyTok ER (sendCell c k.val) 0 false) ∗ bigSep Finset.univ fun k : Fin 24 => dutyTok ER (recvCell c k.val) 0 false)

/-- What the launch mints for device `c`. -/
def G (c : Dev nD) : sProp 𝕄 :=
  iprop((bigSep Finset.univ fun k : CK => roundState ER (ringRd m ρ) (kcell (c, k)) 0)
    ∗ (bigSep Finset.univ fun k : CK => iprop(atPos ER (kcell (c, k)) 0 ∅ 0 ∗ reached ER (kcell (c, k)) 0)) ∗ toks c)

/-- The ghost state of all cells and duties can be made. -/
theorem mint : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CK => Φ (kcell (c, k)) := by
    unfold allCells; rw [BI.bigSep_map, BI.bigSep_univ_prod]; rfl
  have hT : bigSep allToks (fun x => (dutyTok ER x.1 x.2.1 x.2.2 : sProp 𝕄)) = bigSep Finset.univ fun c : Dev nD => toks c := by
    unfold allToks; rw [BI.bigSep_map, BI.bigSep_univ_prod]
    refine bigSep_congr fun c _ => ?_
    unfold toks
    rw [BI.bigSep_univ_sum, BI.bigSep_univ_sum, bigSep_univ_eq_bigSepL [false, true] (by decide) (by decide), bigSepL_cons_cons, bigSepL_singleton]
    rfl
  iintro HX
  imod (Rounds.fund ER (ringRd m ρ) allCells allToks) $$ HX with ⟨Hst, Hr, Hat, Htok⟩
  imodintro
  ihave Hst := (Entails.of_eq (hX fun g => roundState ER (ringRd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G
  simp only [bigSep_sep']
  isplitl [Hst]; · iexact Hst
  isplitl [Hat Hr]
  · isplitl [Hat]; · iexact Hat
    iexact Hr
  iexact Htok

/-! ## Dealing -/

def ring : Dev nD ≃ Dev nD := ⟨nxt, prv, prv_nxt, nxt_prv⟩
/-- A tile step's transfers, from sender to receiver. -/
def route : Dev nD × Fin 24 ≃ Dev nD × Fin 24 where
  toFun ck := (peer ck.1 ck.2.val, ck.2)
  invFun ck := (src ck.1 ck.2.val, ck.2)
  left_inv ck := Prod.ext (src_peer _ _) rfl
  right_inv ck := Prod.ext (peer_src _ _) rfl

/-- The duty tokens that device `c` spends. -/
def payToks (c : Dev nD) : sProp 𝕄 :=
  iprop((dutyTok ER (barCell (nxt c)) 0 false ∗ dutyTok ER (barCell (prv c)) 0 true)
    ∗ bigSep Finset.univ (fun k : Fin 24 => dutyTok ER (sendCell c k.val) 0 false) ∗ bigSep Finset.univ fun k : Fin 24 => dutyTok ER (recvCell (peer c k.val) k.val) 0 false)

omit [FloatOps F] in
/-- Each device's tokens regrouped by the device that pays with them. -/
theorem toks_dealt : (bigSep Finset.univ fun c : Dev nD => (toks c : sProp 𝕄)) = bigSep Finset.univ fun c : Dev nD => payToks c := by
  unfold toks payToks
  rw [bigSep_sep', bigSep_sep', bigSep_sep', bigSep_sep', bigSep_sep', bigSep_sep',
    BI.bigSep_univ_equiv ring (fun c : Dev nD => (dutyTok ER (barCell c) 0 false : sProp 𝕄)),
    BI.bigSep_univ_equiv ring.symm (fun c : Dev nD => (dutyTok ER (barCell c) 0 true : sProp 𝕄)),
    ← BI.bigSep_univ_prod (fun ck : Dev nD × Fin 24 => (dutyTok ER (recvCell ck.1 ck.2.val) 0 false : sProp 𝕄)),
    BI.bigSep_univ_equiv route (fun ck : Dev nD × Fin 24 => (dutyTok ER (recvCell ck.1 ck.2.val) 0 false : sProp 𝕄)),
    BI.bigSep_univ_prod]
  rfl

/-- Every cell's invariant and first round. -/
def cellRecords (K : Dev nD × CK → ℕ) : sProp 𝕄 :=
  iprop(bigSep Finset.univ (fun ck => cellInv ER (ringRd m ρ) (K ck) (kcell ck)) ∗ bigSep Finset.univ fun ck : Dev nD × CK => reached ER (kcell ck) 0)

instance cellRecords_persistent (K : Dev nD × CK → ℕ) : BI.Persistent (cellRecords m ρ K) := by unfold cellRecords; infer_instance

/-- A device's own part: its positions, its tokens, the copies' semaphores. -/
def own₀ (c : Dev nD) : sProp 𝕄 :=
  iprop(bigSep Finset.univ (fun k : CK => atPos ER (kcell (c, k)) 0 ∅ 0) ∗ payToks c ∗ dyZero c)

/-- What the launch deals device `c`. -/
def G' (c : Dev nD) : sProp 𝕄 := iprop((∃ K, cellRecords m ρ K) ∗ own₀ c)

/-- A device's cells allocated. -/
theorem alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (ringRd m ρ) κ (kcell (c, k))))
          ∗ (bigSep Finset.univ fun k : CK => (reached ER (kcell (c, k)) 0 : sProp 𝕄)) ∗ (bigSep Finset.univ fun k : CK => atPos ER (kcell (c, k)) 0 ∅ 0) ∗ toks c ∗ dyZero c) := by
  unfold G
  rw [ownSems0_eq, unscopedSems0_eq, bigSep_sep']
  iintro ⟨⟨Hd, HS, HV⟩, HB, Hst, ⟨Hat, Hr⟩, Htok⟩
  ihave Hv := (Entails.of_eq (over_cells c (fun g => semVal g 0)).symm) $$ [HS HV HB]
  · isplitl [HB]; · iexact HB
    isplitl [HS]; · iexact HS
    iexact HV
  imod (show iprop((bigSep Finset.univ fun k : CK => semVal (kcell (c, k)) 0) ∗ bigSep Finset.univ fun k : CK => roundState ER (ringRd m ρ) (kcell (c, k)) 0)
      ⊢ (|={Set.univ}=> bigSep Finset.univ fun k : CK => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv]; · iexact Hv
    iexact Hst
  imodintro
  isplitl [Hinv]; · iexact Hinv
  isplitl [Hr]; · iexact Hr
  isplitl [Hat]; · iexact Hat
  isplitl [Htok]; · iexact Htok
  iexact Hd

omit [FloatOps F] in
/-- A persistent fact beside a family is beside each of its members. -/
theorem beside {I : Type} [DecidableEq I] (S : Finset I) (R : sProp 𝕄) [BI.Persistent R] (Φ : I → sProp 𝕄) :
    iprop(R ∗ bigSep S Φ) ⊢ bigSep S fun i => iprop(R ∗ Φ i) := by
  rw [bigSep_sep']; exact sep_mono_left (BI.bigSep_of_persistent S R)

/-- The cells allocated, every device gets its part. -/
theorem deal :
    (bigSep Finset.univ fun c : Dev nD => iprop((bigSep Finset.univ fun k : CK => iprop(∃ κ : ℕ, cellInv ER (ringRd m ρ) κ (kcell (c, k))))
          ∗ (bigSep Finset.univ fun k : CK => (reached ER (kcell (c, k)) 0 : sProp 𝕄)) ∗ (bigSep Finset.univ fun k : CK => atPos ER (kcell (c, k)) 0 ∅ 0) ∗ toks c ∗ dyZero c))
      ⊢ bigSep Finset.univ (G' m ρ) := by
  rw [bigSep_sep', bigSep_sep', bigSep_sep', bigSep_sep', ← BI.bigSep_univ_prod (fun ck : Dev nD × CK => iprop(∃ κ : ℕ, cellInv ER (ringRd m ρ) κ (kcell ck))),
    ← BI.bigSep_univ_prod (fun ck : Dev nD × CK => (reached ER (kcell ck) 0 : sProp 𝕄)), toks_dealt]
  iintro ⟨HI, HR, Hat, Htok, Hd⟩
  ihave HK := (BI.bigSep_exists_pi Finset.univ (fun (ck : Dev nD × CK) (κ : ℕ) => (cellInv ER (ringRd m ρ) κ (kcell ck) : sProp 𝕄))) $$ HI
  icases HK with ⟨%K, HI⟩
  iapply ((beside Finset.univ (cellRecords m ρ K) own₀).trans (bigSep_mono fun c _ => show iprop(cellRecords m ρ K ∗ own₀ c) ⊢ G' m ρ c from by
    unfold G'
    iintro ⟨H, H'⟩
    isplitl [H]; · iexists K; iexact H
    iexact H'))
  isplitl [HI HR]
  · unfold cellRecords
    isplitl [HI]; · iexact HI
    iexact HR
  unfold own₀
  simp only [bigSep_sep']
  isplitl [Hat]; · iexact Hat
  isplitl [Htok]; · iexact Htok
  iexact Hd

/-- The launch's step over all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc m ρ c).trans (bigSep_fupd _ _)).trans (BI.fupd_mono (deal m ρ))

end Cert.KernelIdeal.RingProof
-- ==== Proof.KernelIdeal.Launch.lean ====
/-
The launch: what each device is given, what its body makes of it, and the run of the whole program.
-/
module

public import proofs.«01_k».proof.Proof.KernelIdeal.Body
public import proofs.«01_k».proof.Proof.KernelIdeal.Ghost
public import Idealize.ShloMosaic.Lib.Pipeline.CollectiveSegs

@[expose] public section

set_option maxRecDepth 16384

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The credits the launch deals -/

omit [FloatOps F] in
theorem recv_ne_bar (k : ℕ) : (SemLoc.dma (recvSem k) : SemLoc sig) ≠ .reg barS := fun h => by cases h

omit [FloatOps F] in
theorem barCell_inj {c d : Dev nD} (h : barCell c = barCell d) : c = d := congrArg (fun g : GSem nD τ sig => g.1.1) h
omit [FloatOps F] in
theorem recvSem_inj {k j : ℕ} (hk : k < 24) (hj : j < 24) (h : (SemLoc.dma (recvSem k) : SemLoc sig) = .dma (recvSem j)) : k = j := by
  have e : semNum (.dma (recvSem k)) = semNum (.dma (recvSem j)) := congrArg semNum h
  rw [semNum_recv ⟨k, hk⟩, semNum_recv ⟨j, hj⟩] at e
  exact Nat.add_left_cancel e

omit [FloatOps F] in
/-- A barrier is owed a unit by each neighbour; -/
theorem owed_bar (d c : Dev nD) : O₀ d (barCell c) () = (if d = prv c then 1 else 0) + (if d = nxt c then 1 else 0) := by
  unfold O₀ O₁
  rw [Pi.add_apply, Finsupp.add_apply, Pi.add_apply, Finsupp.add_apply, tallyAt_apply, tallyAt_apply]
  have h0 : owed d 0 (barCell c) () = 0 := by
    by_contra h
    obtain ⟨k, -, -, e⟩ := owed_pos (Nat.pos_of_ne_zero h)
    exact recv_ne_bar k (congrArg Prod.snd e).symm
  have h1 : (barCell c = barCell (nxt d) ∧ () = ()) ↔ d = prv c :=
    ⟨fun h => by rw [barCell_inj h.1, prv_nxt], fun h => by rw [h, nxt_prv]; exact ⟨rfl, rfl⟩⟩
  have h2 : (barCell c = barCell (prv d) ∧ () = ()) ↔ d = nxt c :=
    ⟨fun h => by rw [barCell_inj h.1, nxt_prv], fun h => by rw [h, prv_nxt]; exact ⟨rfl, rfl⟩⟩
  rw [h0, Nat.zero_add]
  rw [if_congr h1 rfl rfl, if_congr h2 rfl rfl]

omit [FloatOps F] in
/-- an arrival cell a slot's credit by the device its block comes from. -/
theorem owed_recv (d c : Dev nD) (k : ℕ) (hk : k < 24) : O₀ d (recvCell c k) () = if d = src c k then N else 0 := by
  unfold O₀ O₁ owed
  rw [Pi.add_apply, Finsupp.add_apply, Pi.add_apply, Finsupp.add_apply,
    tallyAt_ne_cell (fun h => recv_ne_bar k (congrArg Prod.snd h)), tallyAt_ne_cell (fun h => recv_ne_bar k (congrArg Prod.snd h)),
    Finsupp.zero_apply, Nat.add_zero, Nat.add_zero, Finset.sum_apply, Finsupp.finset_sum_apply,
    Finset.sum_eq_single k (fun j hj hne => by
      rw [tallyAt_ne_cell (fun h => hne (recvSem_inj (Finset.mem_Ico.mp hj).2 hk (congrArg Prod.snd h).symm)), Finsupp.zero_apply])
      (fun h => absurd (Finset.mem_Ico.mpr ⟨Nat.zero_le _, hk⟩) h), tallyAt_apply]
  have h1 : (recvCell c k = recvCell (peer d k) k ∧ () = ()) ↔ d = src c k :=
    ⟨fun h => by
      have e : c = peer d k := congrArg (fun g : GSem nD τ sig => g.1.1) h.1
      rw [e, src_peer], fun h => by rw [h, peer_src]; exact ⟨rfl, rfl⟩⟩
  rw [if_congr h1 rfl rfl]

omit [FloatOps F] in
/-- So the launch gives each device two units of credit at its barrier, -/
theorem credit_bar (c : Dev nD) :
    tallyOn (barCell c) (launchCredit (Pipeline.owing O₀) 0 (barCell c)) = (tallyAt (barCell c) () 2 : CellTallies nD τ sig Unit) := by
  unfold tallyAt
  refine congrArg _ (Finsupp.ext fun u => ?_)
  cases u
  rw [Pipeline.launchCredit_owing, Finsupp.single_eq_same, Finset.sum_congr rfl fun d _ => owed_bar d c, Finset.sum_add_distrib]
  simp only [Finset.sum_ite_eq', Finset.mem_univ, if_true]

omit [FloatOps F] in
/-- and at each arrival cell a slot's credit. -/
theorem credit_recv (c : Dev nD) (k : ℕ) (hk : k < 24) :
    tallyOn (recvCell c k) (launchCredit (Pipeline.owing O₀) 0 (recvCell c k)) = (tallyAt (recvCell c k) () N : CellTallies nD τ sig Unit) := by
  unfold tallyAt
  refine congrArg _ (Finsupp.ext fun u => ?_)
  cases u
  rw [Pipeline.launchCredit_owing, Finsupp.single_eq_same, Finset.sum_congr rfl fun d _ => owed_recv d c k hk]
  simp only [Finset.sum_ite_eq', Finset.mem_univ, if_true]

omit [FloatOps F] in
/-- A device's credits: its barrier's two units, a slot's credit at each arrival cell. -/
theorem creds (c : Dev nD) : (Pipeline.launchCred O₀ c : sProp 𝕄)
    ⊢ iprop(cred (tallyAt (barCell c) () 2) ∗ bigSep (Finset.Ico 0 24) fun k => cred (tallyAt (recvCell c k) () N)) := by
  unfold Pipeline.launchCred
  rw [bigSep_univ_at _ (SemLoc.reg barS), credit_bar]
  refine sep_mono_right ?_
  have hi : Set.InjOn (fun k => (SemLoc.dma (recvSem k) : SemLoc sig)) (Finset.Ico 0 24 : Finset ℕ) := fun k hk j hj h =>
    recvSem_inj (Finset.mem_Ico.mp (Finset.mem_coe.mp hk)).2 (Finset.mem_Ico.mp (Finset.mem_coe.mp hj)).2 h
  refine (bigSep_subset (t := (Finset.Ico 0 24).image fun k => (SemLoc.dma (recvSem k) : SemLoc sig)) fun s hs => ?_).trans ?_
  · obtain ⟨k, -, rfl⟩ := Finset.mem_image.mp hs
    exact Finset.mem_erase.mpr ⟨recv_ne_bar k, Finset.mem_univ _⟩
  · rw [BI.bigSep_image_of_injOn hi]
    exact bigSep_mono fun k hk => Entails.of_eq (congrArg cred (credit_recv c k (Finset.mem_Ico.mp hk).2))

/-! ## Before the body and after it -/

/-- The three scratch buffers, at any contents. -/
def scratch (c : Dev nD) : sProp 𝕄 :=
  iprop((∃ f : Buf (Elt F) (dbL c), (dbL c) ↦{fullShare} f) ∗ (∃ f : Buf (Elt F) (sbL c), (sbL c) ↦{fullShare} f) ∗ (∃ f : Buf (Elt F) (rbL c), (rbL c) ↦{fullShare} f))

/-- A device's part of the protocol, its rows of `dy`, the copies' semaphores. -/
def start (c : Dev nD) : sProp 𝕄 := iprop((∃ K, rights m ρ K c) ∗ dyHeld c m ∗ dyZero c)

/-- What the body starts from, beside the staged windows. -/
def Φ₀ (c : Dev nD) : sProp 𝕄 := iprop(start m ρ c ∗ scratch c)
/-- Every semaphore of the device at zero, its rows of `dy` unchanged. -/
def Φ₁ (c : Dev nD) : sProp 𝕄 :=
  iprop(dyHeld c m ∗ (dyZero c ∗ bigSep (Finset.Ico 0 24) (fun k => semVal (sendCell c k) 0) ∗ bigSep (Finset.Ico 0 24) fun k => semVal (recvCell c k) 0)
    ∗ semVal (barCell c) 0 ∗ scratch c)

/-- The two windows: `x` staged and left as it was, the result staged and left at `res`; what the device holds before and after the one grid point, and what it owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => res c m ρ
  Φ t := match t with
    | ⟨0, _⟩ => Φ₀ m ρ c
    | ⟨_ + 1, _⟩ => Φ₁ m c
  q _ := fullShare
  owed t := match t with
    | ⟨0, _⟩ => O₀ c
    | ⟨_ + 1, _⟩ => 0

theorem one_point : cfg0.N = 1 := by decide
/-- The one grid point. -/
def pt : Fin cfg0.N := ⟨0, by rw [one_point]; decide⟩
theorem eq_pt (t : Fin cfg0.N) : t = pt := by
  have h := one_point
  exact Fin.ext (by have := t.isLt; show t.val = 0; omega)

theorem fetched (t : Fin cfg0.N) : (cfg0.win (0 : Fin 2)).fetch t = true := by rw [eq_pt t]; rfl

/-- A whole buffer of the device, held at the contents `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

/-- Everything the body is given; -/
def pre (c : Dev nD) : sProp 𝕄 :=
  iprop(Φ₀ m ρ c ∗ (dats m ρ 0 c).owesAt () pt.castSucc
    ∗ (∃ d, staged c cc0_stg0_0 ((dats m ρ 0 c).before (0 : Fin 2) pt d))
    ∗ (∃ d, staged c cc0_stg1_0 ((dats m ρ 0 c).before (1 : Fin 2) pt d)))
/-- everything it gives back. -/
def post (c : Dev nD) : sProp 𝕄 :=
  iprop(Φ₁ m c ∗ (dats m ρ 0 c).owesAt () pt.succ ∗ staged c cc0_stg0_0 (xstg m ρ c) ∗ staged c cc0_stg1_0 (res c m ρ))

/-- What the body starts from is what the launch gives; -/
theorem enter (c : Dev nD) : pre m ρ c ⊢ iprop(∃ K f, rights m ρ K c ∗ buffers m ρ f c) := by
  unfold pre Φ₀ start scratch dyZero
  iintro ⟨⟨⟨⟨%K, Hg⟩, Hd, Hz0, Hz1⟩, ⟨%fd, Hdb⟩, ⟨%fs, Hsb⟩, ⟨%fr, Hrb⟩⟩, Ho, ⟨%d0, %g0, %hg0, Hx⟩, ⟨%d1, %g1, %hg1, Hout⟩⟩
  have hx : g0 = xstg m ρ c := by
    rw [hg0]; unfold Dat.before; rw [if_pos (fetched pt)]; rfl
  subst hx
  iexists K
  iexists g1
  isplitl [Hg]; · iexact Hg
  unfold buffers
  isplitl [Ho]
  · unfold Dat.owesAt Pipeline.owesWithin
    icases Ho with ⟨%W, %hW, HO⟩
    rw [show (dats m ρ 0 c).owed pt.castSucc = O₀ c from rfl]
    iexists W; iexact HO
  isplitl [Hdb Hd Hz0 Hz1]
  · iapply (dyFree_intro c m fd)
    isplitl [Hdb]; · iexact Hdb
    isplitl [Hd]; · iexact Hd
    isplitl [Hz0]; · iexact Hz0
    iexact Hz1
  isplitl [Hx]; · iexact Hx
  isplitl [Hout]; · unfold Sout; iexact Hout
  isplitl [Hsb]; · iapply (send_cut c fs); iexact Hsb
  iapply (recv_cut c fr); iexact Hrb

/-- A cell whose one round is over is closed. -/
theorem close (K : Dev nD × CK → ℕ) (ck : Dev nD × CK) :
    iprop(records m ρ K ∗ atPos ER (kcell ck) 1 ∅ 0) ⊢ |={Set.univ}=> (semVal (kcell ck) 0 : sProp 𝕄) :=
  (sep_mono_left (records_inv m ρ K ck)).trans (Rounds.cell_close ER (ringRd m ρ) (Set.mem_univ (K ck)) (fun h => h) (R := 1) (duties_later m ρ _))

/-- The departure cells of a device are closed together; -/
theorem close_sends (K : Dev nD × CK → ℕ) (c : Dev nD) :
    iprop(records m ρ K ∗ bigSep (Finset.Ico 0 24) fun k => atPos ER (sendCell c k) 1 ∅ 0)
      ⊢ |={Set.univ}=> bigSep (Finset.Ico 0 24) fun k => (semVal (sendCell c k) 0 : sProp 𝕄) := by
  rw [← fin_Ico 24 fun k => atPos ER (sendCell c k) 1 ∅ 0, ← fin_Ico 24 fun k => semVal (sendCell c k) 0]
  exact (beside _ _ _).trans ((bigSep_mono fun k _ => close m ρ K (c, .inr (.inl k))).trans (bigSep_fupd _ _))

/-- so are its arrival cells. -/
theorem close_recvs (K : Dev nD × CK → ℕ) (c : Dev nD) :
    iprop(records m ρ K ∗ bigSep (Finset.Ico 0 24) fun k => atPos ER (recvCell c k) 1 ∅ 0)
      ⊢ |={Set.univ}=> bigSep (Finset.Ico 0 24) fun k => (semVal (recvCell c k) 0 : sProp 𝕄) := by
  rw [← fin_Ico 24 fun k => atPos ER (recvCell c k) 1 ∅ 0, ← fin_Ico 24 fun k => semVal (recvCell c k) 0]
  exact (beside _ _ _).trans ((bigSep_mono fun k _ => close m ρ K (c, .inr (.inr k))).trans (bigSep_fupd _ _))

/-- and what it ends with is what the launch takes back. -/
theorem leave (K : Dev nD × CK → ℕ) (f : (cc0_stg1_0 : Ref sig .tc).ty.Contents (Elt F)) (c : Dev nD) :
    St m ρ K f c 32 32 24 24 24 24 8 ⊢ |={Set.univ}=> post m ρ c := by
  have hcome : bigSep (Finset.Ico 0 24) (come m ρ c)
      ⊢ iprop(bigSep (Finset.Ico 0 24) (fun k => slotAny (F := F) c (rbS k)) ∗ bigSep (Finset.Ico 0 24) fun k => atPos ER (recvCell c k) 1 ∅ 0) := by
    rw [← bigSep_sep']
    exact bigSep_mono fun k _ => show come m ρ c k ⊢ _ from by unfold come; exact sep_mono_left (slotAt_any _ _ _)
  unfold St Sdy Sx Sout Ssend Srecv
  rw [owed_end, outW_res]
  iintro ⟨#HR, ⟨Hdy, -⟩, ⟨Hx, Hbar⟩, Hout, ⟨⟨%W, HO⟩, -, Hsb, -, -, Hat⟩, -, Hrecv⟩
  ihave Hrecv := (hcome) $$ Hrecv
  icases Hrecv with ⟨Hrb, Hrat⟩
  imod (close m ρ K (c, .inl ())) $$ [Hbar] with Hbar
  · isplitr; · iexact HR
    iexact Hbar
  imod (close_sends m ρ K c) $$ [Hat] with HzS
  · isplitr; · iexact HR
    iexact Hat
  imod (close_recvs m ρ K c) $$ [Hrat] with HzV
  · isplitr; · iexact HR
    iexact Hrat
  ihave Hdy := (dyFree_elim c m (m (dbL c))) $$ Hdy
  icases Hdy with ⟨Hdb, Hd, Hz0, Hz1⟩
  imodintro
  unfold post Φ₁ scratch dyZero
  isplitr [HO Hx Hout]
  · isplitl [Hd]; · iexact Hd
    isplitl [Hz0 Hz1 HzS HzV]
    · isplitl [Hz0 Hz1]
      · isplitl [Hz0]; · iexact Hz0
        iexact Hz1
      isplitl [HzS]; · iexact HzS
      iexact HzV
    isplitl [Hbar]; · iexact Hbar
    isplitl [Hdb]; · iexact Hdb
    isplitl [Hsb]; · iapply (send_uncut c (m (sbL c))); iexact Hsb
    iapply (recv_uncut c (m (rbL c))); iexact Hrb
  isplitl [HO]
  · unfold Dat.owesAt Pipeline.owesWithin
    rw [show (dats m ρ 0 c).owed pt.succ = 0 from rfl]
    iexists W
    isplitr; · ipureintro; exact fun _ _ => Or.inl trivial
    iexact HO
  isplitl [Hx]
  · iexists (xstg m ρ c); isplitr; · (ipureintro; rfl)
    iexact Hx
  iexists (res c m ρ); isplitr; · (ipureintro; rfl)
  iexact Hout

/-- The body, from what the launch gives to what it takes back. -/
theorem body_sound (c : Dev nD) : pre m ρ c ⊢ wp frame (wpE (defs₀ (F := F)) 𝒱₀ (c : Thread nD τ) none) Set.univ
    (cc0_body xM (Memref.isWhole_whole _) dyM (Memref.isWhole_whole _) oM (Memref.isWhole_whole _) dbM (Memref.isWhole_whole _) sbM (Memref.isWhole_whole _)
      rbM (Memref.isWhole_whole _) cc0_scratch3 cc0_scratch4 cc0_scratch5) (fun _ => post m ρ c) := by
  refine (enter m ρ c).trans ?_
  iintro ⟨%K, %f, H⟩
  have hb := body_run (m := m) (ρ := ρ) (K := K) (c := c) f
  unfold WP at hb
  iapply (hb.trans ((wp_mono _ _ _ fun _ => leave m ρ K f c).trans (wp_fupd _ _ _ _ _)))
  iexact H

/-- The body meets the obligation the launch puts on it. -/
theorem body_obligation (c : Dev nD) : BodyObligation (dats (F := F) m ρ 0 c) (defs₀ (F := F)) 𝒱₀ () Set.univ := fun t => by
  rw [eq_pt t]
  rw [bigSep_W0, bigSep_W0]
  simp only [owns_staged]
  exact body_sound m ρ c

/-! ## The side conditions of the launch -/

/-- Every window's array is held whole. -/
theorem share_eq (c : Dev nD) (w : Fin cfg0.W) : (dats m ρ 0 c).share w = fullShare := by unfold Dat.share; split <;> rfl

/-- What the launch deals a device is its start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  have hdy : (Pipeline.unscopedRestP Pipeline.Prefetch.none cfg0.spec c (fun b => m ((c : Thread nD τ).loc b)) : sProp 𝕄) = dyHeld c m := by
    rw [Pipeline.unscopedRestP_none]; exact unscopedRest0_eq c _
  have hat := over_cells (F := F) c (fun g => atPos ER g 0 ∅ 0)
  rw [hdy]
  unfold G' own₀ start rights payToks cellRecords records
  rw [hat, fin_Ico 24 (fun k => dutyTok ER (sendCell c k) 0 false), fin_Ico 24 (fun k => dutyTok ER (recvCell (peer c k) k) 0 false),
    show (sendRight (F := F) c) = fun k => iprop(dutyTok ER (recvCell (peer c k) k) 0 false ∗ dutyTok ER (sendCell c k) 0 false ∗ atPos ER (sendCell c k) 0 ∅ 0) from rfl,
    show (coming (F := F) c) = fun k => iprop(cred (tallyAt (recvCell c k) () N) ∗ atPos ER (recvCell c k) 0 ∅ 0) from rfl,
    bigSep_sep', bigSep_sep', bigSep_sep']
  iintro ⟨Hdy, Hlev, Hcr, -, ⟨%K, HI, HRch⟩, ⟨HaB, HaS, HaV⟩, ⟨⟨HtN, HtP⟩, HtS, HtV⟩, Hz⟩
  ihave Hc := (creds (F := F) c) $$ Hcr
  icases Hc with ⟨HcB, HcV⟩
  imodintro
  isplitl
  · isplitr [Hdy Hz]
    · iexists K
      isplitl [HI HRch Hlev]
      · isplitl [HI]; · iexact HI
        isplitl [HRch]; · iexact HRch
        iexact Hlev
      isplitl [HtP]; · iexact HtP
      isplitl [HtN]; · iexact HtN
      isplitl [HcB]; · iexact HcB
      isplitl [HaB]; · iexact HaB
      isplitl [HtV HtS HaS]
      · isplitl [HtV]; · iexact HtV
        isplitl [HtS]; · iexact HtS
        iexact HaS
      isplitl [HcV]; · iexact HcV
      iexact HaV
    isplitl [Hdy]; · iexact Hdy
    iexact Hz
  iempintro

/-- The start with the scratch buffers is what the body begins with; -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

/-- what it ends with gives the scratch buffers and every semaphore back. -/
theorem phi1_exit (c : Dev nD) :
    (dats m ρ 0 c).Φ (Fin.last cfg0.N) ⊢ iprop((unscopedSems0 c ∗ dyHeld c m) ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ scratch
  iintro ⟨Hd, Hz, HzB, Hr⟩
  isplitl [Hd HzB]
  · isplitl [HzB]; · iexact HzB
    iexact Hd
  isplitl [Hz]; · iexact Hz
  iexact Hr

/-- The pipeline may wait on its own staging semaphores: nothing owed lies below them. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- A device's barrier at zero and its rows of `dy`, read off the final memory. -/
theorem read_end (c : Dev nD) (s' : Phys nD τ sig (Elt F)) :
    iprop((unscopedSems0 c ∗ dyHeld c m) ∗ emp ∗ SI s')
      ⊢ |={Set.univ}=> (iprop(⌜(∀ sm : SemLoc sig, sm.isScoped .tc = false → s'.mem.sem ((c.tc : Thread nD τ), sm) = 0)
          ∧ s'.mem.mem ((c : Thread nD τ).loc main_arg1) = m ((c : Thread nD τ).loc main_arg1)⌝ ∗ SI s') : sProp 𝕄) := by
  iintro ⟨⟨Hu, Hd⟩, -, HSI⟩
  ihave Hd := (show iprop(dyHeld c m ∗ SI s') ⊢ (iprop(⌜∀ i ∈ (Finset.univ : Finset Unit), s'.mem.mem ((c : Thread nD τ).loc main_arg1) = m ((c : Thread nD τ).loc main_arg1)⌝ ∗ SI s') : sProp 𝕄) from
    (sep_mono_left (Entails.of_eq (show dyHeld c m = bigSep (Finset.univ : Finset Unit) (fun _ => (((c : Thread nD τ).loc main_arg1) ↦{fullShare} m ((c : Thread nD τ).loc main_arg1) : sProp 𝕄)) from by
      rw [Finset.univ_unique, bigSep_singleton]; rfl))).trans
      (pointsTo_read_all (Finset.univ : Finset Unit) (fun _ => (c : Thread nD τ).loc main_arg1) (fun _ => m ((c : Thread nD τ).loc main_arg1)) s')) $$ [Hd HSI]
  · isplitl [Hd]; · iexact Hd
    iexact HSI
  icases Hd with ⟨%hd, HSI⟩
  imod (Pipeline.unscopedSems0_read (X := unscopedSems0 c) (c := c) fupd_intro s') $$ [Hu HSI] with H
  · isplitl [Hu]; · iexact Hu
    iexact HSI
  icases H with ⟨%hu, HSI⟩
  imodintro
  isplitr
  · ipureintro; exact ⟨hu, hd () (Finset.mem_univ _)⟩
  iexact HSI

/-! ## The run -/

/-- What a window's array holds at the end. -/
def finalA (c : Dev nD) (w : Fin cfg0.W) : Buf (Elt F) ((cfg0.win w).arr.view.loc (c : Thread nD τ)) := (dats m ρ 0 c).arrAt w cfg0.N

/-- What the run leaves: each window's array at its final contents, `dy` unchanged, every semaphore at zero. -/
def Final (s : MemSt nD τ sig (Elt F)) : Prop :=
  (∀ (c : Dev nD) (w : Fin cfg0.W), s.mem ((cfg0.win w).arr.view.loc (c : Thread nD τ)) = finalA m ρ c w)
    ∧ (∀ c : Dev nD, s.mem ((c : Thread nD τ).loc main_arg1) = m ((c : Thread nD τ).loc main_arg1)) ∧ s.sem = fun _ => 0

set_option maxRecDepth 100000 in
/-- From any memory with zero counters, every weakly fair run of the program on the four devices ends, and every end is `Final`. -/
theorem run_main : θ_run defs (onTc (τ := τ) (main (F := F))) (s₀ m ρ) (fun r => Final m ρ r.2) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave HX := (own_pair_emb EQ _ _) $$ HX
      icases HX with ⟨HX, -⟩
      imod (mint m ρ) $$ HX with HG
      imodintro
      isplitl [HP]; · iexact HP
      iexact HG)
    (hglob := glob m ρ)
    (hA := fun _ _ => rfl) (hpf := fun _ k => k.elim0)
    (X := start m ρ) (Y := fun c => iprop(unscopedSems0 c ∗ dyHeld c m)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := read_end m)
    (hQ := fun _ h hs => ⟨fun c w => (h c).1 w, fun c => (h c).2.2.2, sem_eq_zero hs fun c => (h c).2.2.1⟩)

/-- The rows of `x` are unchanged; -/
theorem finalA_x (c : Dev nD) : finalA m ρ c (0 : Fin 2) = m ((c : Thread nD τ).loc main_arg0) :=
  (dats (F := F) m ρ 0 c).arrAt_in (0 : Fin 2) rfl _

/-- the result's array holds the result. -/
theorem finalA_out (c : Dev nD) : finalA m ρ c (1 : Fin 2) = res c m ρ := by
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  have hz : (fun a => (win0_1.index (0 : Fin 1)) a * main_v1.ty.shape.size a) = fun _ => 0 := funext fun a => by fin_cases a <;> decide
  have hr := fun f => Memref.read_access_unit_zero (Elt F) main_v1 hz (fun a => by fin_cases a <;> decide) f
  refine (hr _).symm.trans ?_
  exact View.read_write_univ _ _

end Cert.KernelIdeal.RingProof
-- ==== Proof.KernelIdeal.Value.lean ====
/-
The values at exact numbers: a device's result is its block of the product of the whole arrays.

`part X Y d r col` is what the rows of device `d` contribute to entry `(r, col)` of `xᵀ · dy`. The product of a tile step is
a tile of such contributions, a finished block the sum of those of the devices it has passed, and after the four steps the
sum over all devices.
-/
module

public import proofs.«01_k».proof.Proof.KernelIdeal.Slots
public import proofs.«01_k».proof.Proof.Gen.ReferenceIdeal
public import Idealize.ShloMosaic.Lib.Layout
public import Idealize.ShloMosaic.Lib.ValueIdxCore
public import Idealize.ShloMosaic.PureOps.Ideal.Laws

@[expose] public section

set_option maxRecDepth 16384

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx
open scoped BigOperators

variable (m : (ℓ : Loc nD τ sig) → Buf (Elt Ideal) ℓ) (ρ : Dev nD → PrngReg)

/-! ## The product of a tile step -/

/-- The device's rows of `x`; -/
abbrev xOf (c : Dev nD) : S2048x2048.Idx → EReal := m ((c : Thread nD τ).loc main_arg0)
/-- of `dy`. -/
abbrev dyOf (c : Dev nD) : S2048x8192.Idx → EReal := m ((c : Thread nD τ).loc main_arg1)

theorem col_lt (j : ℕ) (hj : j < 4) (r : Fin 512) : 512 * j + r.val < 2048 := by have := r.isLt; omega
theorem tile_lt (k : ℕ) (q : Fin 1024) : 1024 * (k % 8) + q.val < 8192 := by have := q.isLt; omega

/-- A loaded block of `x` is 512 columns of the device's rows; -/
theorem xv_apply (c : Dev nD) (s p : ℕ) (n : Fin 2048) (r : Fin 512) :
    xv m ρ c s p (ix2 n r) = xOf m c (ix2 n ⟨512 * chunk c s p + r.val, col_lt _ (chunk_lt c s p) r⟩) := by
  show xOf m c _ = xOf m c _
  refine congrArg (xOf m c) (funext (Fin.forall_fin_two.mpr ⟨Fin.ext ?_, Fin.ext ?_⟩))
  · show 0 + 1 * (0 + 1 * n.val) = n.val
    omega
  · show 0 + 1 * (512 * chunk c s p + 1 * r.val) = 512 * chunk c s p + r.val
    omega

/-- a tile of `dy` is 1024 columns of the device's rows. -/
theorem dyT_apply (c : Dev nD) (k : ℕ) (n : Fin 2048) (q : Fin 1024) :
    dyT m c k (ix2 n q) = dyOf m c (ix2 n ⟨1024 * (k % 8) + q.val, tile_lt k q⟩) := by
  show dyOf m c _ = dyOf m c _
  refine congrArg (dyOf m c) (funext (Fin.forall_fin_two.mpr ⟨Fin.ext ?_, Fin.ext ?_⟩))
  · show 0 + 1 * n.val = n.val
    omega
  · show 1024 * (k % 8) + 1 * q.val = 1024 * (k % 8) + q.val
    omega

/-- The contracted coordinate of a tile step's product. -/
abbrev rows : dot_S2048x512_S2048x1024_S512x1024_0_0_1_1_n_n.contr.Idx ≃ Fin 2048 :=
  contrEquiv1 dot_S2048x512_S2048x1024_S512x1024_0_0_1_1_n_n 2048 rfl rfl

/-- An entry of a tile step's product is the inner product of a column of `x` and a column of `dy`. -/
theorem prod_apply (c : Dev nD) (k : ℕ) (r : Fin 512) (q : Fin 1024) :
    prod m ρ c k (ix2 r q) = ∑ n : Fin 2048,
      xOf m c (ix2 n ⟨512 * chunk c (k / 8) (k % 2) + r.val, col_lt _ (chunk_lt _ _ _) r⟩)
        * dyOf m c (ix2 n ⟨1024 * (k % 8) + q.val, tile_lt k q⟩) := by
  unfold prod dyv
  rw [shapeCast_self, shapeCast_shapeCast]
  refine (Ideal.matmul_constant_zero_apply (φ₁ := .bf16) (φ₂ := .bf16) _ none _ _ _).trans ?_
  rw [← Equiv.sum_comp rows.symm]
  refine Finset.sum_congr rfl fun n _ => ?_
  have hn := contrEquiv1_symm_val dot_S2048x512_S2048x1024_S512x1024_0_0_1_1_n_n 2048 rfl rfl n
  have el : dot_S2048x512_S2048x1024_S512x1024_0_0_1_1_n_n.lhsIdx (ix2 r q) (rows.symm n) = ix2 n r :=
    funext (Fin.forall_fin_two.mpr ⟨Fin.ext hn, Fin.ext rfl⟩)
  have er : dot_S2048x512_S2048x1024_S512x1024_0_0_1_1_n_n.rhsIdx (ix2 r q) (rows.symm n) = ix2 n q :=
    funext (Fin.forall_fin_two.mpr ⟨Fin.ext hn, Fin.ext rfl⟩)
  rw [el, er, xv_apply, dyT_apply]

/-! ## A finished block -/

/-- Rounding is the identity, so a block finished is the product, -/
theorem first_eq (c : Dev nD) (k : ℕ) : first m ρ c k = prod m ρ c k := rfl
/-- plus the block received. -/
theorem next_apply (c : Dev nD) (k : ℕ) (p : FVec Ideal S512x1024 .bf16) (i : S512x1024.Idx) :
    next m ρ c k p i = prod m ρ c k i + (p i : EReal) := by
  show prod m ρ c k i + (shapeCast S512x1024 (recvv p) shapeCasts_S1x1x512x1024_S512x1024 i : EReal) = _
  unfold recvv
  rw [shapeCast_shapeCast]

/-- The block a device ends with: its own product and those of the three devices the block came through. -/
theorem sum_last (c : Dev nD) (t : ℕ) (ht : t < 8) (i : S512x1024.Idx) :
    sum m ρ c (24 + t) i = prod m ρ c (24 + t) i + (prod m ρ (src c t) (16 + t) i
      + (prod m ρ (src (src c t) t) (8 + t) i + prod m ρ (src (src (src c t) t) t) t i)) := by
  unfold sum
  rw [show (24 + t) % 8 = t by omega, show (24 + t) / 8 = 3 by omega]
  simp only [acc]
  rw [next_apply, next_apply, next_apply, first_eq]

/-! ## Sums around the ring -/

/-- A sum over the devices, counted down the ring from `c`; -/
theorem down (c : Dev nD) (P : Dev nD → EReal) : P c + (P (prv c) + (P (prv (prv c)) + P (prv (prv (prv c))))) = ∑ d, P d := by
  have hu : (Finset.univ : Finset (Dev nD)) = {c, prv c, prv (prv c), prv (prv (prv c))} := by revert c; decide
  rw [hu, Finset.sum_insert (by revert c; decide), Finset.sum_insert (by revert c; decide), Finset.sum_insert (by revert c; decide),
    Finset.sum_singleton]
/-- counted up the ring. -/
theorem up (c : Dev nD) (P : Dev nD → EReal) : P c + (P (nxt c) + (P (nxt (nxt c)) + P (nxt (nxt (nxt c))))) = ∑ d, P d := by
  have hu : (Finset.univ : Finset (Dev nD)) = {c, nxt c, nxt (nxt c), nxt (nxt (nxt c))} := by revert c; decide
  rw [hu, Finset.sum_insert (by revert c; decide), Finset.sum_insert (by revert c; decide), Finset.sum_insert (by revert c; decide),
    Finset.sum_singleton]

/-! ## The whole arrays -/

section Whole
variable (X : (⟨2, ![8192, 2048]⟩ : Shape).Idx → EReal) (Y : (⟨2, ![8192, 8192]⟩ : Shape).Idx → EReal)

/-- The rows of the whole arrays are dealt to the four devices in order. -/
theorem tiles_x : Layout.Tiles ⟨2, ![2048, 2048]⟩ ⟨2, ![8192, 2048]⟩ 0 4 := by decide
/-- So are the rows of `dy`. -/
theorem tiles_dy : Layout.Tiles ⟨2, ![2048, 8192]⟩ ⟨2, ![8192, 8192]⟩ 0 4 := by decide

theorem row_lt (d : Fin 4) (n : Fin 2048) : d.val * 2048 + n.val < 8192 := by have := d.isLt; have := n.isLt; omega

/-- What the rows of device `d` contribute to entry `(r, col)` of the product. -/
def part (d : Fin 4) (r : Fin 2048) (col : Fin 8192) : EReal :=
  ∑ n : Fin 2048, X (ix2 ⟨d.val * 2048 + n.val, row_lt d n⟩ r) * Y (ix2 ⟨d.val * 2048 + n.val, row_lt d n⟩ col)

variable (hX : ∀ c : Dev nD, xOf m c = Layout.block ⟨2, ![2048, 2048]⟩ ⟨2, ![8192, 2048]⟩ 0 4 c X tiles_x)
  (hY : ∀ c : Dev nD, dyOf m c = Layout.block ⟨2, ![2048, 8192]⟩ ⟨2, ![8192, 8192]⟩ 0 4 c Y tiles_dy)
include hX hY

/-- A tile step's product is a tile of the device's contributions. -/
theorem prod_part (c : Dev nD) (k j : ℕ) (hj : j < 4) (hc : chunk c (k / 8) (k % 2) = j) (r : Fin 512) (q : Fin 1024) :
    prod m ρ c k (ix2 r q) = part X Y c ⟨512 * j + r.val, col_lt j hj r⟩ ⟨1024 * (k % 8) + q.val, tile_lt k q⟩ := by
  subst hc
  rw [prod_apply, hX c, hY c]
  refine Finset.sum_congr rfl fun n _ => ?_
  refine congrArg₂ (· * ·) (congrArg X ?_) (congrArg Y ?_)
  · exact funext (Fin.forall_fin_two.mpr ⟨Fin.ext rfl, Fin.ext rfl⟩)
  · exact funext (Fin.forall_fin_two.mpr ⟨Fin.ext rfl, Fin.ext rfl⟩)

/-- A device's result is its block of the sum of all contributions. -/
theorem sum_parts (c : Dev nD) (t : ℕ) (ht : t < 8) (r : Fin 512) (q : Fin 1024) :
    sum m ρ c (24 + t) (ix2 r q)
      = ∑ d : Fin 4, part X Y d ⟨512 * c.val + r.val, col_lt _ c.isLt r⟩ ⟨1024 * (t % 8) + q.val, tile_lt t q⟩ := by
  have hc : c.val < 4 := c.isLt
  have hk : ∀ (d : Dev nD) (a : ℕ), chunk d ((8 * a + t) / 8) ((8 * a + t) % 2) = c.val →
      prod m ρ d (8 * a + t) (ix2 r q) = part X Y d ⟨512 * c.val + r.val, col_lt _ c.isLt r⟩ ⟨1024 * (t % 8) + q.val, tile_lt t q⟩ := by
    intro d a h
    rw [prod_part m ρ X Y hX hY d (8 * a + t) c.val c.isLt h]
    refine congrArg _ (Fin.ext ?_)
    show 1024 * ((8 * a + t) % 8) + q.val = 1024 * (t % 8) + q.val
    omega
  have hn : ∀ a b : ℕ, a = b → ∀ d : Dev nD, prod m ρ d a (ix2 r q) = prod m ρ d b (ix2 r q) := fun a b h d => by rw [h]
  rw [sum_last m ρ c t ht, hn (24 + t) (8 * 3 + t) rfl, hn (16 + t) (8 * 2 + t) rfl, hn (8 + t) (8 * 1 + t) rfl,
    hn t (8 * 0 + t) (by omega)]
  rcases Nat.mod_two_eq_zero_or_one t with h | h
  · have hs : ∀ d : Dev nD, src d t = prv d := fun d => by unfold src; rw [if_pos h]
    have e : ∀ (d : Dev nD) (a : ℕ), chunk d ((8 * a + t) / 8) ((8 * a + t) % 2) = (d.val + 7 - a) % 4 := fun d a => by
      unfold chunk; rw [show (8 * a + t) / 8 = a by omega, if_pos (by omega)]
    simp only [hs]
    rw [hk c 3 ((e _ _).trans (by omega)),
      hk (prv c) 2 ((e _ _).trans (show ((c.val + 3) % 4 + 7 - 2) % 4 = c.val by omega)),
      hk (prv (prv c)) 1 ((e _ _).trans (show (((c.val + 3) % 4 + 3) % 4 + 7 - 1) % 4 = c.val by omega)),
      hk (prv (prv (prv c))) 0 ((e _ _).trans (show ((((c.val + 3) % 4 + 3) % 4 + 3) % 4 + 7 - 0) % 4 = c.val by omega))]
    exact down c fun d => part X Y d _ _
  · have hs : ∀ d : Dev nD, src d t = nxt d := fun d => by unfold src; rw [if_neg (by omega)]
    have e : ∀ (d : Dev nD) (a : ℕ), chunk d ((8 * a + t) / 8) ((8 * a + t) % 2) = (d.val + a + 1) % 4 := fun d a => by
      unfold chunk; rw [show (8 * a + t) / 8 = a by omega, if_neg (by omega)]
    simp only [hs]
    rw [hk c 3 ((e _ _).trans (by omega)),
      hk (nxt c) 2 ((e _ _).trans (show ((c.val + 1) % 4 + 2 + 1) % 4 = c.val by omega)),
      hk (nxt (nxt c)) 1 ((e _ _).trans (show (((c.val + 1) % 4 + 1) % 4 + 1 + 1) % 4 = c.val by omega)),
      hk (nxt (nxt (nxt c))) 0 ((e _ _).trans (show ((((c.val + 1) % 4 + 1) % 4 + 1) % 4 + 0 + 1) % 4 = c.val by omega))]
    exact up c fun d => part X Y d _ _

end Whole

end Cert.KernelIdeal.RingProof
-- ==== Proof.Reference.lean ====
/-
What the reference computes at exact numbers: an entry of its result is the sum over all 8192 rows, which is the sum over the
four devices of what each device's 2048 rows contribute.
-/
module

public import proofs.«01_k».proof.Proof.Gen.ReferenceIdeal.Run
public import proofs.«01_k».proof.Proof.KernelIdeal.Value

@[expose] public section

set_option maxRecDepth 16384

noncomputable section

namespace Cert.RingReference

open Cert.ReferenceIdeal Cert.ReferenceIdeal.Gen
open Idealize.ShloMosaic Idealize.ShloMosaic.ValueIdx
open Cert.KernelIdeal.RingProof (part row_lt)
open scoped BigOperators

variable (X : FVec Ideal S8192x2048 .bf16) (Y : FVec Ideal S8192x8192 .bf16)

/-- The reference's result on the whole arrays. -/
def out : FVec Ideal S2048x8192 .bf16 :=
  truncf .bf16 (Host.dotGeneral dot_S2048x8192_S8192x8192_S2048x8192_1_0_0_1_n_n none
    (transpose S2048x8192 [1, 0] (extf .f32 X bitsLt_bf16_f32) transposes_S8192x2048_S2048x8192_1_0) (extf .f32 Y bitsLt_bf16_f32)) bitsLt_bf16_f32

/-- The contracted coordinate of the reference's product. -/
abbrev rows : dot_S2048x8192_S8192x8192_S2048x8192_1_0_0_1_n_n.contr.Idx ≃ Fin 8192 :=
  contrEquiv1 dot_S2048x8192_S8192x8192_S2048x8192_1_0_0_1_n_n 8192 rfl rfl

/-- An entry is the inner product of a column of `x` and a column of `dy`; -/
theorem out_apply (r : Fin 2048) (q : Fin 8192) : (out X Y (ix2 r q) : EReal) = ∑ n : Fin 8192, (X (ix2 n r) : EReal) * (Y (ix2 n q) : EReal) := by
  show (Host.dotGeneral (φ₁ := .f32) (φ₂ := .f32) dot_S2048x8192_S8192x8192_S2048x8192_1_0_0_1_n_n none
    (transpose S2048x8192 [1, 0] (extf .f32 X bitsLt_bf16_f32) transposes_S8192x2048_S2048x8192_1_0) (extf .f32 Y bitsLt_bf16_f32) (ix2 r q) : EReal) = _
  unfold Host.dotGeneral
  rw [Ideal.dotGeneral_apply, ← Equiv.sum_comp rows.symm]
  refine Finset.sum_congr rfl fun n _ => ?_
  have hn := contrEquiv1_symm_val dot_S2048x8192_S8192x8192_S2048x8192_1_0_0_1_n_n 8192 rfl rfl n
  have el : dot_S2048x8192_S8192x8192_S2048x8192_1_0_0_1_n_n.lhsIdx (ix2 r q) (rows.symm n) = ix2 r n :=
    funext (Fin.forall_fin_two.mpr ⟨Fin.ext rfl, Fin.ext hn⟩)
  have er : dot_S2048x8192_S8192x8192_S2048x8192_1_0_0_1_n_n.rhsIdx (ix2 r q) (rows.symm n) = ix2 n q :=
    funext (Fin.forall_fin_two.mpr ⟨Fin.ext hn, Fin.ext rfl⟩)
  rw [el, er, transpose_apply [1, 0] (extf .f32 X bitsLt_bf16_f32) transposes_S8192x2048_S2048x8192_1_0 (ix2 r n) (ix2 n r)
    (Fin.forall_fin_two.mpr ⟨rfl, rfl⟩)]
  rfl

/-- the rows counted device by device. -/
theorem out_parts (r : Fin 2048) (q : Fin 8192) : (out X Y (ix2 r q) : EReal) = ∑ d : Fin 4, part X Y d r q := by
  rw [out_apply]
  unfold part
  rw [← Fintype.sum_prod_type' fun (d : Fin 4) (n : Fin 2048) =>
    (X (ix2 ⟨d.val * 2048 + n.val, row_lt d n⟩ r) : EReal) * (Y (ix2 ⟨d.val * 2048 + n.val, row_lt d n⟩ q) : EReal)]
  refine (Fintype.sum_equiv (finProdFinEquiv (m := 4) (n := 2048)) _ _ fun p => ?_).symm
  have e : (⟨p.1.val * 2048 + p.2.val, row_lt p.1 p.2⟩ : Fin 8192) = finProdFinEquiv p := Fin.ext (by
    show p.1.val * 2048 + p.2.val = p.2.val + 2048 * p.1.val
    omega)
  rw [e]

end Cert.RingReference
-- ==== Proof.lean ====
/-
The certificate: the frames of the three programs, the preservation and the algebraic equation, together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Reference

@[expose] public section

noncomputable section

namespace Cert.Proof

open Idealize.ShloMosaic Idealize.ShloMosaic.TcCoe Idealize.SL.Sem

/-- The kernel runs at the machine's floats, its arguments end unchanged, every semaphore ends at zero. -/
theorem frame_kernel : Cert.quiescent_Kernel := fun m g _ =>
  (θ_run Cert.Kernel.defs _ _).mono
    (fun _ h => ⟨fun c => ⟨(h.1 c (0 : Fin 2)).trans (Cert.Kernel.RingProof.finalA_x m g c), h.2.1 c⟩, h.2.2⟩)
    (Cert.Kernel.RingProof.run_main (F := Bits) m g)

/-- The same at exact numbers. -/
theorem frame_kernelIdeal : Cert.quiescent_KernelIdeal := fun m g _ =>
  (θ_run Cert.KernelIdeal.defs _ _).mono
    (fun _ h => ⟨fun c => ⟨(h.1 c (0 : Fin 2)).trans (Cert.KernelIdeal.RingProof.finalA_x m g c), h.2.1 c⟩, h.2.2⟩)
    (Cert.KernelIdeal.RingProof.run_main (F := Ideal) m g)

/-- The reference runs at exact numbers and leaves its arguments unchanged; it has no semaphore. -/
theorem frame_referenceIdeal : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- Device `c`'s result is block `c` of the reference's. -/
theorem result_block (m : (ℓ : Loc Cert.KernelIdeal.nD Cert.KernelIdeal.τ Cert.KernelIdeal.sig) → Buf (Elt Ideal) ℓ)
    (ρ : Dev Cert.KernelIdeal.nD → PrngReg) (X : FVec Ideal Cert.ReferenceIdeal.S8192x2048 .bf16) (Y : FVec Ideal Cert.ReferenceIdeal.S8192x8192 .bf16)
    (hX : ∀ c : Dev Cert.KernelIdeal.nD, Cert.KernelIdeal.RingProof.xOf m c = Layout.block ⟨2, ![2048, 2048]⟩ ⟨2, ![8192, 2048]⟩ 0 4 c X Cert.KernelIdeal.RingProof.tiles_x)
    (hY : ∀ c : Dev Cert.KernelIdeal.nD, Cert.KernelIdeal.RingProof.dyOf m c = Layout.block ⟨2, ![2048, 8192]⟩ ⟨2, ![8192, 8192]⟩ 0 4 c Y Cert.KernelIdeal.RingProof.tiles_dy)
    (c : Dev Cert.KernelIdeal.nD) :
    Cert.KernelIdeal.RingProof.res c m ρ = Layout.block ⟨2, ![512, 8192]⟩ ⟨2, ![2048, 8192]⟩ 0 4 c (Cert.RingReference.out X Y) := by
  refine funext fun (i : Cert.KernelIdeal.S512x8192.Idx) => ?_
  have h0 : (i 0).val < 512 := (i 0).isLt
  have h1 : (i 1).val < 8192 := (i 1).isLt
  have hc : c.val < 4 := c.isLt
  have ht : (i 1).val / 1024 < 8 := by omega
  have er : Cert.KernelIdeal.RingProof.res c m ρ i = Cert.KernelIdeal.RingProof.sum m ρ c (24 + (i 1).val / 1024)
      (ValueIdx.ix2 (⟨(i 0).val, h0⟩ : Fin 512) (⟨(i 1).val % 1024, Nat.mod_lt _ (by decide)⟩ : Fin 1024)) :=
    congrArg (Cert.KernelIdeal.RingProof.sum m ρ c (24 + (i 1).val / 1024)) (funext (Fin.forall_fin_two.mpr ⟨rfl, rfl⟩))
  refine er.trans ?_
  rw [Layout.block_apply]
  refine (Cert.KernelIdeal.RingProof.sum_parts m ρ X Y hX hY c _ ht _ _).trans ((Cert.RingReference.out_parts X Y _ _).symm.trans ?_)
  refine congrArg (Cert.RingReference.out X Y) (funext (Fin.forall_fin_two.mpr ⟨Fin.ext ?_, Fin.ext ?_⟩))
  · show 512 * c.val + (i 0).val = c.val * 512 + (i 0).val
    omega
  · show 1024 * ((i 1).val / 1024 % 8) + (i 1).val % 1024 = (i 1).val
    omega

/-- At exact numbers each device's result is its block of the reference's result, from any arguments. -/
theorem algebraic : Cert.algebraic_KernelIdeal_ReferenceIdeal := by
  intro m g m' g' _ h
  refine ⟨Cert.RingReference.out (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono (fun _ hr c => ⟨(hr.1 c (1 : Fin 2)).trans ?_,
      (hr.1 c (0 : Fin 2)).trans (Cert.KernelIdeal.RingProof.finalA_x m g c), hr.2.1 c⟩) (Cert.KernelIdeal.RingProof.run_main (F := Ideal) m g)
    rw [Cert.KernelIdeal.RingProof.finalA_out]
    exact result_block m g _ _ (fun c => (h c).1) (fun c => (h c).2) c
  · exact (θ_run Cert.ReferenceIdeal.defs _ _).mono (fun _ hr => hr 0) (Cert.ReferenceIdeal.Value.run (F := Ideal) m' g')

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
